-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_shape" .f32 0x37A72F05#32 ((1 / 50176 : ℝ) : EReal)

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v512) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_range : Cert.Pre_unit_range.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
-- ==== Pre_unit_range.lean ====
abbrev S4x96x224x224 : Shape := ⟨4, ![4, 96, 224, 224]⟩
abbrev S_ : Shape := ⟨0, ![]⟩

class Facts : Prop where
  bcast_S_S4x96x224x224 : S_.BroadcastsInDim S4x96x224x224 (![] : Fin 0 → Fin S4x96x224x224.rank)

variable [Facts]

def fn {F : FTy → Type} [FloatOps F] (main_arg0 : FVec F S4x96x224x224 .f32) (main_arg1 : FVec F S4x96x224x224 .f32) : IVec S4x96x224x224 1 :=
  let main_cst : FVec F S_ .f32 := constant S_ .f32 0x00000000#32
  let main_v0 : FVec F S4x96x224x224 .f32 := broadcastInDim S4x96x224x224 ![] bcast_S_S4x96x224x224 main_cst
  let main_v1 : IVec S4x96x224x224 1 := cmpf .oge main_arg0 main_v0
  let main_cst_0 : FVec F S_ .f32 := constant S_ .f32 0x3F800000#32
  let main_v2 : FVec F S4x96x224x224 .f32 := broadcastInDim S4x96x224x224 ![] bcast_S_S4x96x224x224 main_cst_0
  let main_v3 : IVec S4x96x224x224 1 := cmpf .ole main_arg0 main_v2
  let main_v4 : IVec S4x96x224x224 1 := andi main_v1 main_v3
  let main_cst_1 : FVec F S_ .f32 := constant S_ .f32 0x00000000#32
  let main_v5 : FVec F S4x96x224x224 .f32 := broadcastInDim S4x96x224x224 ![] bcast_S_S4x96x224x224 main_cst_1
  let main_v6 : IVec S4x96x224x224 1 := cmpf .oge main_arg1 main_v5
  let main_v7 : IVec S4x96x224x224 1 := andi main_v4 main_v6
  let main_cst_2 : FVec F S_ .f32 := constant S_ .f32 0x3F800000#32
  let main_v8 : FVec F S4x96x224x224 .f32 := broadcastInDim S4x96x224x224 ![] bcast_S_S4x96x224x224 main_cst_2
  let main_v9 : IVec S4x96x224x224 1 := cmpf .ole main_arg1 main_v8
  let main_v10 : IVec S4x96x224x224 1 := andi main_v7 main_v9
  main_v10
-- ==== Kernel.lean ====
abbrev S4x96x224x224 : Shape := ⟨4, ![4, 96, 224, 224]⟩
abbrev S224x112 : Shape := ⟨2, ![224, 112]⟩
abbrev S1x1 : Shape := ⟨2, ![1, 1]⟩
abbrev S1x32x224x224 : Shape := ⟨4, ![1, 32, 224, 224]⟩
abbrev S4x192x112 : Shape := ⟨3, ![4, 192, 112]⟩
abbrev S8x112 : Shape := ⟨2, ![8, 112]⟩
abbrev S32x224x224 : Shape := ⟨3, ![32, 224, 224]⟩
abbrev S7168x224 : Shape := ⟨2, ![7168, 224]⟩
abbrev S7168x112 : Shape := ⟨2, ![7168, 112]⟩
abbrev S112x112 : Shape := ⟨2, ![112, 112]⟩
abbrev S14x8x112 : Shape := ⟨3, ![14, 8, 112]⟩
abbrev S1x192x112 : Shape := ⟨3, ![1, 192, 112]⟩
abbrev S192x112 : Shape := ⟨2, ![192, 112]⟩
abbrev S4x192 : Shape := ⟨2, ![4, 192]⟩
abbrev S4x8 : Shape := ⟨2, ![4, 8]⟩
abbrev S4 : Shape := ⟨1, ![4]⟩
abbrev S4x1 : Shape := ⟨2, ![4, 1]⟩
abbrev S4x24 : Shape := ⟨2, ![4, 24]⟩
abbrev S4x23 : Shape := ⟨2, ![4, 23]⟩
abbrev S4x26 : Shape := ⟨2, ![4, 26]⟩
abbrev S4x25 : Shape := ⟨2, ![4, 25]⟩
abbrev S1x25 : Shape := ⟨2, ![1, 25]⟩
abbrev S25 : Shape := ⟨1, ![25]⟩
abbrev S1 : Shape := ⟨1, ![1]⟩
abbrev S2x25 : Shape := ⟨2, ![2, 25]⟩
abbrev S3x25 : Shape := ⟨2, ![3, 25]⟩

abbrev nBuf : Space → Nat
  | .hbm => 4
  | .vmem => 8
  | .smem => 0
  | _ => 0

abbrev bufTy : (tb : Table) → Fin (tcTables nBuf tb) → BufTy
  | .hbm, ⟨0, _⟩ => ⟨S4x96x224x224, .f32⟩
  | .hbm, ⟨1, _⟩ => ⟨S4x96x224x224, .f32⟩
  | .hbm, ⟨2, _⟩ => ⟨S224x112, .f32⟩
  | .hbm, ⟨3, _⟩ => ⟨S1x1, .f32⟩
  | .local _ .vmem, ⟨0, _⟩ => ⟨S1x32x224x224, .f32⟩
  | .local _ .vmem, ⟨1, _⟩ => ⟨S1x32x224x224, .f32⟩
  | .local _ .vmem, ⟨2, _⟩ => ⟨S1x32x224x224, .f32⟩
  | .local _ .vmem, ⟨3, _⟩ => ⟨S1x32x224x224, .f32⟩
  | .local _ .vmem, ⟨4, _⟩ => ⟨S224x112, .f32⟩
  | .local _ .vmem, ⟨5, _⟩ => ⟨S1x1, .f32⟩
  | .local _ .vmem, ⟨6, _⟩ => ⟨S4x192x112, .f32⟩
  | .local _ .vmem, ⟨7, _⟩ => ⟨S4x192x112, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 3], ![false, false]⟩

def k0_off1 (i : grid0.Coords) : Fin 3 → Nat :=
  let arg0 : BitVec 32 := BitVec.ofNat 32 (i 0).val
  let v3298 : Index := Scalar.indexCast arg0
  let c0_1631 : Index := 0#32
  let c0_1632 : Index := 0#32
  ![v3298.toNat, 0, 0]
def k0_cond2 (i : grid0.Coords) : BitVec 1 :=
  let arg0 : BitVec 32 := BitVec.ofNat 32 (i 0).val
  let c3_i32 : BitVec 32 := 3#32
  let v6608 : BitVec 1 := Scalar.cmpi .eq arg0 c3_i32
  let arg1 : BitVec 32 := BitVec.ofNat 32 (i 1).val
  let c2_i32 : BitVec 32 := 2#32
  let v6609 : BitVec 1 := Scalar.cmpi .eq arg1 c2_i32
  let v6610 : BitVec 1 := Scalar.andi v6608 v6609
  let v6611 : BitVec 32 := Scalar.extui v6610
  let c0_i32_3268 : BitVec 32 := 0#32
  let v6612 : BitVec 1 := Scalar.cmpi .ne v6611 c0_i32_3268
  v6612

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S224x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "inv_shape" => some ((1 / 50176 : ℝ) : EReal)
  | _ => none
-- ==== ReferenceIdeal.lean ====
abbrev S4x96x224x224 : Shape := ⟨4, ![4, 96, 224, 224]⟩
abbrev S_ : Shape := ⟨0, ![]⟩
abbrev S4x96x1x224 : Shape := ⟨4, ![4, 96, 1, 224]⟩
abbrev S4x96x3x224 : Shape := ⟨4, ![4, 96, 3, 224]⟩
abbrev S4x96x227x224 : Shape := ⟨4, ![4, 96, 227, 224]⟩
abbrev S4x96x230x224 : Shape := ⟨4, ![4, 96, 230, 224]⟩
abbrev S4x96x230x1 : Shape := ⟨4, ![4, 96, 230, 1]⟩
abbrev S4x96x230x3 : Shape := ⟨4, ![4, 96, 230, 3]⟩
abbrev S4x96x230x227 : Shape := ⟨4, ![4, 96, 230, 227]⟩
abbrev S4x96x230x230 : Shape := ⟨4, ![4, 96, 230, 230]⟩
abbrev S4x96x112x112 : Shape := ⟨4, ![4, 96, 112, 112]⟩
abbrev S4x1204224 : Shape := ⟨2, ![4, 1204224]⟩
abbrev S4x1204224x1 : Shape := ⟨3, ![4, 1204224, 1]⟩
abbrev S25 : Shape := ⟨1, ![25]⟩
abbrev S1x1x25 : Shape := ⟨3, ![1, 1, 25]⟩
abbrev S4x1204224x25 : Shape := ⟨3, ![4, 1204224, 25]⟩
abbrev S4x25 : Shape := ⟨2, ![4, 25]⟩
abbrev S1x25 : Shape := ⟨2, ![1, 25]⟩
abbrev S5x25 : Shape := ⟨2, ![5, 25]⟩
abbrev S4 : Shape := ⟨1, ![4]⟩
abbrev S4x1 : Shape := ⟨2, ![4, 1]⟩
abbrev S96 : Shape := ⟨1, ![96]⟩
abbrev S1x96 : Shape := ⟨2, ![1, 96]⟩
abbrev S4x96 : Shape := ⟨2, ![4, 96]⟩
abbrev S1x96x1 : Shape := ⟨3, ![1, 96, 1]⟩
abbrev S1x96x25 : Shape := ⟨3, ![1, 96, 25]⟩
abbrev S4x1x1 : Shape := ⟨3, ![4, 1, 1]⟩
abbrev S4x1x25 : Shape := ⟨3, ![4, 1, 25]⟩
abbrev S4x96x25 : Shape := ⟨3, ![4, 96, 25]⟩
abbrev S4x96x1 : Shape := ⟨3, ![4, 96, 1]⟩
abbrev S1x1 : Shape := ⟨2, ![1, 1]⟩

abbrev nBuf : Space → Nat
  | .hbm => 700
  | .vmem => 0
  | .smem => 0
  | _ => 0

abbrev hbmTy0_0 (i : Nat) : BufTy := match i % 128 with
  | 0 => ⟨S4x96x224x224, .f32⟩
  | 1 => ⟨S4x96x224x224, .f32⟩
  | 2 => ⟨S_, .i32⟩
  | 3 => ⟨S4x96x1x224, .f32⟩
  | 4 => ⟨S4x96x3x224, .f32⟩
  | 5 => ⟨S4x96x3x224, .f32⟩
  | 6 => ⟨S4x96x227x224, .f32⟩
  | 7 => ⟨S4x96x1x224, .f32⟩
  | 8 => ⟨S4x96x3x224, .f32⟩
  | 9 => ⟨S4x96x3x224, .f32⟩
  | 10 => ⟨S4x96x230x224, .f32⟩
  | 11 => ⟨S4x96x230x1, .f32⟩
  | 12 => ⟨S4x96x230x3, .f32⟩
  | 13 => ⟨S4x96x230x3, .f32⟩
  | 14 => ⟨S4x96x230x227, .f32⟩
  | 15 => ⟨S4x96x230x1, .f32⟩
  | 16 => ⟨S4x96x230x3, .f32⟩
  | 17 => ⟨S4x96x230x3, .f32⟩
  | 18 => ⟨S4x96x230x230, .f32⟩
  | 19 => ⟨S_, .f32⟩
  | 20 => ⟨S4x96x112x112, .f32⟩
  | 21 => ⟨S4x96x112x112, .f32⟩
  | 22 => ⟨S_, .f32⟩
  | 23 => ⟨S4x96x112x112, .f32⟩
  | 24 => ⟨S4x96x112x112, .f32⟩
  | 25 => ⟨S4x96x112x112, .f32⟩
  | 26 => ⟨S4x96x112x112, .f32⟩
  | 27 => ⟨S_, .f32⟩
  | 28 => ⟨S4x96x112x112, .f32⟩
  | 29 => ⟨S4x96x112x112, .f32⟩
  | 30 => ⟨S4x96x112x112, .f32⟩
  | 31 => ⟨S4x96x112x112, .f32⟩
  | 32 => ⟨S_, .f32⟩
  | 33 => ⟨S4x96x112x112, .f32⟩
  | 34 => ⟨S4x96x112x112, .f32⟩
  | 35 => ⟨S4x96x112x112, .f32⟩
  | 36 => ⟨S4x96x112x112, .f32⟩
  | 37 => ⟨S_, .f32⟩
  | 38 => ⟨S4x96x112x112, .f32⟩
  | 39 => ⟨S4x96x112x112, .f32⟩
  | 40 => ⟨S4x96x112x112, .f32⟩
  | 41 => ⟨S4x96x112x112, .f32⟩
  | 42 => ⟨S_, .f32⟩
  | 43 => ⟨S4x96x112x112, .f32⟩
  | 44 => ⟨S4x96x112x112, .f32⟩
  | 45 => ⟨S4x96x112x112, .f32⟩
  | 46 => ⟨S4x96x112x112, .f32⟩
  | 47 => ⟨S_, .f32⟩
  | 48 => ⟨S4x96x112x112, .f32⟩
  | 49 => ⟨S4x96x112x112, .f32⟩
  | 50 => ⟨S4x96x112x112, .f32⟩
  | 51 => ⟨S4x96x112x112, .f32⟩
  | 52 => ⟨S_, .f32⟩
  | 53 => ⟨S4x96x112x112, .f32⟩
  | 54 => ⟨S4x96x112x112, .f32⟩
  | 55 => ⟨S4x96x112x112, .f32⟩
  | 56 => ⟨S4x96x112x112, .f32⟩
  | 57 => ⟨S_, .f32⟩
  | 58 => ⟨S4x96x112x112, .f32⟩
  | 59 => ⟨S4x96x112x112, .f32⟩
  | 60 => ⟨S4x96x112x112, .f32⟩
  | 61 => ⟨S4x96x112x112, .f32⟩
  | 62 => ⟨S_, .f32⟩
  | 63 => ⟨S4x96x112x112, .f32⟩
  | 64 => ⟨S4x96x112x112, .f32⟩
  | 65 => ⟨S4x96x112x112, .f32⟩
  | 66 => ⟨S4x96x112x112, .f32⟩
  | 67 => ⟨S_, .f32⟩
  | 68 => ⟨S4x96x112x112, .f32⟩
  | 69 => ⟨S4x96x112x112, .f32⟩
  | 70 => ⟨S4x96x112x112, .f32⟩
  | 71 => ⟨S4x96x112x112, .f32⟩
  | 72 => ⟨S_, .f32⟩
  | 73 => ⟨S4x96x112x112, .f32⟩
  | 74 => ⟨S4x96x112x112, .f32⟩
  | 75 => ⟨S4x96x112x112, .f32⟩
  | 76 => ⟨S4x96x112x112, .f32⟩
  | 77 => ⟨S_, .f32⟩
  | 78 => ⟨S4x96x112x112, .f32⟩
  | 79 => ⟨S4x96x112x112, .f32⟩
  | 80 => ⟨S4x96x112x112, .f32⟩
  | 81 => ⟨S4x96x112x112, .f32⟩
  | 82 => ⟨S_, .f32⟩
  | 83 => ⟨S4x96x112x112, .f32⟩
  | 84 => ⟨S4x96x112x112, .f32⟩
  | 85 => ⟨S4x96x112x112, .f32⟩
  | 86 => ⟨S4x96x112x112, .f32⟩
  | 87 => ⟨S_, .f32⟩
  | 88 => ⟨S4x96x112x112, .f32⟩
  | 89 => ⟨S4x96x112x112, .f32⟩
  | 90 => ⟨S4x96x112x112, .f32⟩
  | 91 => ⟨S4x96x112x112, .f32⟩
  | 92 => ⟨S_, .f32⟩
  | 93 => ⟨S4x96x112x112, .f32⟩
  | 94 => ⟨S4x96x112x112, .f32⟩
  | 95 => ⟨S4x96x112x112, .f32⟩
  | 96 => ⟨S4x96x112x112, .f32⟩
  | 97 => ⟨S_, .f32⟩
  | 98 => ⟨S4x96x112x112, .f32⟩
  | 99 => ⟨S4x96x112x112, .f32⟩
  | 100 => ⟨S4x96x112x112, .f32⟩
  | 101 => ⟨S4x96x112x112, .f32⟩
  | 102 => ⟨S_, .f32⟩
  | 103 => ⟨S4x96x112x112, .f32⟩
  | 104 => ⟨S4x96x112x112, .f32⟩
  | 105 => ⟨S4x96x112x112, .f32⟩
  | 106 => ⟨S4x96x112x112, .f32⟩
  | 107 => ⟨S_, .f32⟩
  | 108 => ⟨S4x96x112x112, .f32⟩
  | 109 => ⟨S4x96x112x112, .f32⟩
  | 110 => ⟨S4x96x112x112, .f32⟩
  | 111 => ⟨S4x96x112x112, .f32⟩
  | 112 => ⟨S_, .f32⟩
  | 113 => ⟨S4x96x112x112, .f32⟩
  | 114 => ⟨S4x96x112x112, .f32⟩
  | 115 => ⟨S4x96x112x112, .f32⟩
  | 116 => ⟨S4x96x112x112, .f32⟩
  | 117 => ⟨S_, .f32⟩
  | 118 => ⟨S4x96x112x112, .f32⟩
  | 119 => ⟨S4x96x112x112, .f32⟩
  | 120 => ⟨S4x96x112x112, .f32⟩
  | 121 => ⟨S4x96x112x112, .f32⟩
  | 122 => ⟨S_, .f32⟩
  | 123 => ⟨S4x96x112x112, .f32⟩
  | 124 => ⟨S4x96x112x112, .f32⟩
  | 125 => ⟨S4x96x112x112, .f32⟩
  | 126 => ⟨S4x96x112x112, .f32⟩
  | 127 => ⟨S_, .f32⟩
  | _ => ⟨S4x96x224x224, .f32⟩

abbrev hbmTy0_1 (i : Nat) : BufTy := match i % 128 with
  | 0 => ⟨S4x96x112x112, .f32⟩
  | 1 => ⟨S4x96x112x112, .f32⟩
  | 2 => ⟨S4x96x112x112, .f32⟩
  | 3 => ⟨S4x96x112x112, .f32⟩
  | 4 => ⟨S_, .f32⟩
  | 5 => ⟨S4x96x112x112, .f32⟩
  | 6 => ⟨S4x96x112x112, .f32⟩
  | 7 => ⟨S4x96x112x112, .f32⟩
  | 8 => ⟨S4x96x112x112, .f32⟩
  | 9 => ⟨S_, .f32⟩
  | 10 => ⟨S4x96x112x112, .f32⟩
  | 11 => ⟨S4x96x112x112, .f32⟩
  | 12 => ⟨S4x96x112x112, .f32⟩
  | 13 => ⟨S4x96x112x112, .f32⟩
  | 14 => ⟨S_, .f32⟩
  | 15 => ⟨S4x96x112x112, .f32⟩
  | 16 => ⟨S4x96x112x112, .f32⟩
  | 17 => ⟨S4x96x112x112, .f32⟩
  | 18 => ⟨S4x96x112x112, .f32⟩
  | 19 => ⟨S_, .f32⟩
  | 20 => ⟨S4x96x112x112, .f32⟩
  | 21 => ⟨S4x96x112x112, .f32⟩
  | 22 => ⟨S4x96x112x112, .f32⟩
  | 23 => ⟨S4x96x112x112, .f32⟩
  | 24 => ⟨S_, .f32⟩
  | 25 => ⟨S4x96x112x112, .f32⟩
  | 26 => ⟨S4x96x112x112, .f32⟩
  | 27 => ⟨S4x96x112x112, .f32⟩
  | 28 => ⟨S4x96x112x112, .f32⟩
  | 29 => ⟨S_, .f32⟩
  | 30 => ⟨S4x96x112x112, .f32⟩
  | 31 => ⟨S4x96x112x112, .f32⟩
  | 32 => ⟨S4x96x112x112, .f32⟩
  | 33 => ⟨S4x96x112x112, .f32⟩
  | 34 => ⟨S_, .f32⟩
  | 35 => ⟨S4x96x112x112, .f32⟩
  | 36 => ⟨S4x96x112x112, .f32⟩
  | 37 => ⟨S4x96x112x112, .f32⟩
  | 38 => ⟨S4x96x112x112, .f32⟩
  | 39 => ⟨S_, .f32⟩
  | 40 => ⟨S4x96x112x112, .f32⟩
  | 41 => ⟨S4x96x112x112, .f32⟩
  | 42 => ⟨S4x96x112x112, .f32⟩
  | 43 => ⟨S4x96x112x112, .f32⟩
  | 44 => ⟨S_, .f32⟩
  | 45 => ⟨S4x96x112x112, .f32⟩
  | 46 => ⟨S4x96x112x112, .f32⟩
  | 47 => ⟨S4x96x112x112, .f32⟩
  | 48 => ⟨S4x96x112x112, .f32⟩
  | 49 => ⟨S_, .f32⟩
  | 50 => ⟨S4x96x112x112, .f32⟩
  | 51 => ⟨S4x96x112x112, .f32⟩
  | 52 => ⟨S4x96x112x112, .f32⟩
  | 53 => ⟨S4x96x112x112, .f32⟩
  | 54 => ⟨S_, .f32⟩
  | 55 => ⟨S4x96x112x112, .f32⟩
  | 56 => ⟨S4x96x112x112, .f32⟩
  | 57 => ⟨S4x96x112x112, .f32⟩
  | 58 => ⟨S4x96x112x112, .f32⟩
  | 59 => ⟨S_, .f32⟩
  | 60 => ⟨S4x96x112x112, .f32⟩
  | 61 => ⟨S4x96x112x112, .f32⟩
  | 62 => ⟨S4x96x112x112, .f32⟩
  | 63 => ⟨S4x96x112x112, .f32⟩
  | 64 => ⟨S_, .f32⟩
  | 65 => ⟨S4x96x112x112, .f32⟩
  | 66 => ⟨S4x96x112x112, .f32⟩
  | 67 => ⟨S4x96x112x112, .f32⟩
  | 68 => ⟨S4x96x112x112, .f32⟩
  | 69 => ⟨S_, .f32⟩
  | 70 => ⟨S4x96x112x112, .f32⟩
  | 71 => ⟨S4x96x112x112, .f32⟩
  | 72 => ⟨S4x96x112x112, .f32⟩
  | 73 => ⟨S4x96x112x112, .f32⟩
  | 74 => ⟨S_, .f32⟩
  | 75 => ⟨S4x96x112x112, .f32⟩
  | 76 => ⟨S4x96x112x112, .f32⟩
  | 77 => ⟨S4x96x112x112, .f32⟩
  | 78 => ⟨S4x96x112x112, .f32⟩
  | 79 => ⟨S_, .f32⟩
  | 80 => ⟨S4x96x112x112, .f32⟩
  | 81 => ⟨S4x96x112x112, .f32⟩
  | 82 => ⟨S4x96x112x112, .f32⟩
  | 83 => ⟨S4x96x112x112, .f32⟩
  | 84 => ⟨S_, .f32⟩
  | 85 => ⟨S4x96x112x112, .f32⟩
  | 86 => ⟨S4x96x112x112, .f32⟩
  | 87 => ⟨S4x96x112x112, .f32⟩
  | 88 => ⟨S4x96x112x112, .f32⟩
  | 89 => ⟨S_, .f32⟩
  | 90 => ⟨S4x96x112x112, .f32⟩
  | 91 => ⟨S4x96x112x112, .f32⟩
  | 92 => ⟨S4x96x112x112, .f32⟩
  | 93 => ⟨S4x96x112x112, .f32⟩
  | 94 => ⟨S_, .f32⟩
  | 95 => ⟨S4x96x112x112, .f32⟩
  | 96 => ⟨S4x96x112x112, .f32⟩
  | 97 => ⟨S4x96x112x112, .f32⟩
  | 98 => ⟨S4x96x112x112, .f32⟩
  | 99 => ⟨S_, .f32⟩
  | 100 => ⟨S4x96x112x112, .f32⟩
  | 101 => ⟨S4x96x112x112, .f32⟩
  | 102 => ⟨S4x96x112x112, .f32⟩
  | 103 => ⟨S4x96x112x112, .f32⟩
  | 104 => ⟨S_, .f32⟩
  | 105 => ⟨S4x96x112x112, .f32⟩
  | 106 => ⟨S4x96x112x112, .f32⟩
  | 107 => ⟨S4x96x112x112, .f32⟩
  | 108 => ⟨S4x96x112x112, .f32⟩
  | 109 => ⟨S_, .f32⟩
  | 110 => ⟨S4x96x112x112, .f32⟩
  | 111 => ⟨S4x96x112x112, .f32⟩
  | 112 => ⟨S4x96x112x112, .f32⟩
  | 113 => ⟨S4x96x112x112, .f32⟩
  | 114 => ⟨S_, .f32⟩
  | 115 => ⟨S4x96x112x112, .f32⟩
  | 116 => ⟨S4x96x112x112, .f32⟩
  | 117 => ⟨S4x96x112x112, .f32⟩
  | 118 => ⟨S4x96x112x112, .f32⟩
  | 119 => ⟨S_, .f32⟩
  | 120 => ⟨S4x96x112x112, .f32⟩
  | 121 => ⟨S4x96x112x112, .f32⟩
  | 122 => ⟨S4x96x112x112, .f32⟩
  | 123 => ⟨S4x96x112x112, .f32⟩
  | 124 => ⟨S_, .f32⟩
  | 125 => ⟨S4x96x112x112, .f32⟩
  | 126 => ⟨S4x96x112x112, .f32⟩
  | 127 => ⟨S4x96x112x112, .f32⟩
  | _ => ⟨S4x96x224x224, .f32⟩

abbrev hbmTy0_2 (i : Nat) : BufTy := match i % 128 with
  | 0 => ⟨S4x96x112x112, .f32⟩
  | 1 => ⟨S_, .f32⟩
  | 2 => ⟨S4x96x112x112, .f32⟩
  | 3 => ⟨S4x96x112x112, .f32⟩
  | 4 => ⟨S4x96x112x112, .f32⟩
  | 5 => ⟨S4x96x112x112, .f32⟩
  | 6 => ⟨S_, .f32⟩
  | 7 => ⟨S4x96x112x112, .f32⟩
  | 8 => ⟨S4x96x112x112, .f32⟩
  | 9 => ⟨S4x96x112x112, .f32⟩
  | 10 => ⟨S_, .i32⟩
  | 11 => ⟨S4x96x1x224, .f32⟩
  | 12 => ⟨S4x96x3x224, .f32⟩
  | 13 => ⟨S4x96x3x224, .f32⟩
  | 14 => ⟨S4x96x227x224, .f32⟩
  | 15 => ⟨S4x96x1x224, .f32⟩
  | 16 => ⟨S4x96x3x224, .f32⟩
  | 17 => ⟨S4x96x3x224, .f32⟩
  | 18 => ⟨S4x96x230x224, .f32⟩
  | 19 => ⟨S4x96x230x1, .f32⟩
  | 20 => ⟨S4x96x230x3, .f32⟩
  | 21 => ⟨S4x96x230x3, .f32⟩
  | 22 => ⟨S4x96x230x227, .f32⟩
  | 23 => ⟨S4x96x230x1, .f32⟩
  | 24 => ⟨S4x96x230x3, .f32⟩
  | 25 => ⟨S4x96x230x3, .f32⟩
  | 26 => ⟨S4x96x230x230, .f32⟩
  | 27 => ⟨S_, .f32⟩
  | 28 => ⟨S4x96x112x112, .f32⟩
  | 29 => ⟨S4x96x112x112, .f32⟩
  | 30 => ⟨S_, .f32⟩
  | 31 => ⟨S4x96x112x112, .f32⟩
  | 32 => ⟨S4x96x112x112, .f32⟩
  | 33 => ⟨S4x96x112x112, .f32⟩
  | 34 => ⟨S4x96x112x112, .f32⟩
  | 35 => ⟨S_, .f32⟩
  | 36 => ⟨S4x96x112x112, .f32⟩
  | 37 => ⟨S4x96x112x112, .f32⟩
  | 38 => ⟨S4x96x112x112, .f32⟩
  | 39 => ⟨S4x96x112x112, .f32⟩
  | 40 => ⟨S_, .f32⟩
  | 41 => ⟨S4x96x112x112, .f32⟩
  | 42 => ⟨S4x96x112x112, .f32⟩
  | 43 => ⟨S4x96x112x112, .f32⟩
  | 44 => ⟨S4x96x112x112, .f32⟩
  | 45 => ⟨S_, .f32⟩
  | 46 => ⟨S4x96x112x112, .f32⟩
  | 47 => ⟨S4x96x112x112, .f32⟩
  | 48 => ⟨S4x96x112x112, .f32⟩
  | 49 => ⟨S4x96x112x112, .f32⟩
  | 50 => ⟨S_, .f32⟩
  | 51 => ⟨S4x96x112x112, .f32⟩
  | 52 => ⟨S4x96x112x112, .f32⟩
  | 53 => ⟨S4x96x112x112, .f32⟩
  | 54 => ⟨S4x96x112x112, .f32⟩
  | 55 => ⟨S_, .f32⟩
  | 56 => ⟨S4x96x112x112, .f32⟩
  | 57 => ⟨S4x96x112x112, .f32⟩
  | 58 => ⟨S4x96x112x112, .f32⟩
  | 59 => ⟨S4x96x112x112, .f32⟩
  | 60 => ⟨S_, .f32⟩
  | 61 => ⟨S4x96x112x112, .f32⟩
  | 62 => ⟨S4x96x112x112, .f32⟩
  | 63 => ⟨S4x96x112x112, .f32⟩
  | 64 => ⟨S4x96x112x112, .f32⟩
  | 65 => ⟨S_, .f32⟩
  | 66 => ⟨S4x96x112x112, .f32⟩
  | 67 => ⟨S4x96x112x112, .f32⟩
  | 68 => ⟨S4x96x112x112, .f32⟩
  | 69 => ⟨S4x96x112x112, .f32⟩
  | 70 => ⟨S_, .f32⟩
  | 71 => ⟨S4x96x112x112, .f32⟩
  | 72 => ⟨S4x96x112x112, .f32⟩
  | 73 => ⟨S4x96x112x112, .f32⟩
  | 74 => ⟨S4x96x112x112, .f32⟩
  | 75 => ⟨S_, .f32⟩
  | 76 => ⟨S4x96x112x112, .f32⟩
  | 77 => ⟨S4x96x112x112, .f32⟩
  | 78 => ⟨S4x96x112x112, .f32⟩
  | 79 => ⟨S4x96x112x112, .f32⟩
  | 80 => ⟨S_, .f32⟩
  | 81 => ⟨S4x96x112x112, .f32⟩
  | 82 => ⟨S4x96x112x112, .f32⟩
  | 83 => ⟨S4x96x112x112, .f32⟩
  | 84 => ⟨S4x96x112x112, .f32⟩
  | 85 => ⟨S_, .f32⟩
  | 86 => ⟨S4x96x112x112, .f32⟩
  | 87 => ⟨S4x96x112x112, .f32⟩
  | 88 => ⟨S4x96x112x112, .f32⟩
  | 89 => ⟨S4x96x112x112, .f32⟩
  | 90 => ⟨S_, .f32⟩
  | 91 => ⟨S4x96x112x112, .f32⟩
  | 92 => ⟨S4x96x112x112, .f32⟩
  | 93 => ⟨S4x96x112x112, .f32⟩
  | 94 => ⟨S4x96x112x112, .f32⟩
  | 95 => ⟨S_, .f32⟩
  | 96 => ⟨S4x96x112x112, .f32⟩
  | 97 => ⟨S4x96x112x112, .f32⟩
  | 98 => ⟨S4x96x112x112, .f32⟩
  | 99 => ⟨S4x96x112x112, .f32⟩
  | 100 => ⟨S_, .f32⟩
  | 101 => ⟨S4x96x112x112, .f32⟩
  | 102 => ⟨S4x96x112x112, .f32⟩
  | 103 => ⟨S4x96x112x112, .f32⟩
  | 104 => ⟨S4x96x112x112, .f32⟩
  | 105 => ⟨S_, .f32⟩
  | 106 => ⟨S4x96x112x112, .f32⟩
  | 107 => ⟨S4x96x112x112, .f32⟩
  | 108 => ⟨S4x96x112x112, .f32⟩
  | 109 => ⟨S4x96x112x112, .f32⟩
  | 110 => ⟨S_, .f32⟩
  | 111 => ⟨S4x96x112x112, .f32⟩
  | 112 => ⟨S4x96x112x112, .f32⟩
  | 113 => ⟨S4x96x112x112, .f32⟩
  | 114 => ⟨S4x96x112x112, .f32⟩
  | 115 => ⟨S_, .f32⟩
  | 116 => ⟨S4x96x112x112, .f32⟩
  | 117 => ⟨S4x96x112x112, .f32⟩
  | 118 => ⟨S4x96x112x112, .f32⟩
  | 119 => ⟨S4x96x112x112, .f32⟩
  | 120 => ⟨S_, .f32⟩
  | 121 => ⟨S4x96x112x112, .f32⟩
  | 122 => ⟨S4x96x112x112, .f32⟩
  | 123 => ⟨S4x96x112x112, .f32⟩
  | 124 => ⟨S4x96x112x112, .f32⟩
  | 125 => ⟨S_, .f32⟩
  | 126 => ⟨S4x96x112x112, .f32⟩
  | 127 => ⟨S4x96x112x112, .f32⟩
  | _ => ⟨S4x96x224x224, .f32⟩

abbrev hbmTy0_3 (i : Nat) : BufTy := match i % 128 with
  | 0 => ⟨S4x96x112x112, .f32⟩
  | 1 => ⟨S4x96x112x112, .f32⟩
  | 2 => ⟨S_, .f32⟩
  | 3 => ⟨S4x96x112x112, .f32⟩
  | 4 => ⟨S4x96x112x112, .f32⟩
  | 5 => ⟨S4x96x112x112, .f32⟩
  | 6 => ⟨S4x96x112x112, .f32⟩
  | 7 => ⟨S_, .f32⟩
  | 8 => ⟨S4x96x112x112, .f32⟩
  | 9 => ⟨S4x96x112x112, .f32⟩
  | 10 => ⟨S4x96x112x112, .f32⟩
  | 11 => ⟨S4x96x112x112, .f32⟩
  | 12 => ⟨S_, .f32⟩
  | 13 => ⟨S4x96x112x112, .f32⟩
  | 14 => ⟨S4x96x112x112, .f32⟩
  | 15 => ⟨S4x96x112x112, .f32⟩
  | 16 => ⟨S4x96x112x112, .f32⟩
  | 17 => ⟨S_, .f32⟩
  | 18 => ⟨S4x96x112x112, .f32⟩
  | 19 => ⟨S4x96x112x112, .f32⟩
  | 20 => ⟨S4x96x112x112, .f32⟩
  | 21 => ⟨S4x96x112x112, .f32⟩
  | 22 => ⟨S_, .f32⟩
  | 23 => ⟨S4x96x112x112, .f32⟩
  | 24 => ⟨S4x96x112x112, .f32⟩
  | 25 => ⟨S4x96x112x112, .f32⟩
  | 26 => ⟨S4x96x112x112, .f32⟩
  | 27 => ⟨S_, .f32⟩
  | 28 => ⟨S4x96x112x112, .f32⟩
  | 29 => ⟨S4x96x112x112, .f32⟩
  | 30 => ⟨S4x96x112x112, .f32⟩
  | 31 => ⟨S4x96x112x112, .f32⟩
  | 32 => ⟨S_, .f32⟩
  | 33 => ⟨S4x96x112x112, .f32⟩
  | 34 => ⟨S4x96x112x112, .f32⟩
  | 35 => ⟨S4x96x112x112, .f32⟩
  | 36 => ⟨S4x96x112x112, .f32⟩
  | 37 => ⟨S_, .f32⟩
  | 38 => ⟨S4x96x112x112, .f32⟩
  | 39 => ⟨S4x96x112x112, .f32⟩
  | 40 => ⟨S4x96x112x112, .f32⟩
  | 41 => ⟨S4x96x112x112, .f32⟩
  | 42 => ⟨S_, .f32⟩
  | 43 => ⟨S4x96x112x112, .f32⟩
  | 44 => ⟨S4x96x112x112, .f32⟩
  | 45 => ⟨S4x96x112x112, .f32⟩
  | 46 => ⟨S4x96x112x112, .f32⟩
  | 47 => ⟨S_, .f32⟩
  | 48 => ⟨S4x96x112x112, .f32⟩
  | 49 => ⟨S4x96x112x112, .f32⟩
  | 50 => ⟨S4x96x112x112, .f32⟩
  | 51 => ⟨S4x96x112x112, .f32⟩
  | 52 => ⟨S_, .f32⟩
  | 53 => ⟨S4x96x112x112, .f32⟩
  | 54 => ⟨S4x96x112x112, .f32⟩
  | 55 => ⟨S4x96x112x112, .f32⟩
  | 56 => ⟨S4x96x112x112, .f32⟩
  | 57 => ⟨S_, .f32⟩
  | 58 => ⟨S4x96x112x112, .f32⟩
  | 59 => ⟨S4x96x112x112, .f32⟩
  | 60 => ⟨S4x96x112x112, .f32⟩
  | 61 => ⟨S4x96x112x112, .f32⟩
  | 62 => ⟨S_, .f32⟩
  | 63 => ⟨S4x96x112x112, .f32⟩
  | 64 => ⟨S4x96x112x112, .f32⟩
  | 65 => ⟨S4x96x112x112, .f32⟩
  | 66 => ⟨S4x96x112x112, .f32⟩
  | 67 => ⟨S_, .f32⟩
  | 68 => ⟨S4x96x112x112, .f32⟩
  | 69 => ⟨S4x96x112x112, .f32⟩
  | 70 => ⟨S4x96x112x112, .f32⟩
  | 71 => ⟨S4x96x112x112, .f32⟩
  | 72 => ⟨S_, .f32⟩
  | 73 => ⟨S4x96x112x112, .f32⟩
  | 74 => ⟨S4x96x112x112, .f32⟩
  | 75 => ⟨S4x96x112x112, .f32⟩
  | 76 => ⟨S4x96x112x112, .f32⟩
  | 77 => ⟨S_, .f32⟩
  | 78 => ⟨S4x96x112x112, .f32⟩
  | 79 => ⟨S4x96x112x112, .f32⟩
  | 80 => ⟨S4x96x112x112, .f32⟩
  | 81 => ⟨S4x96x112x112, .f32⟩
  | 82 => ⟨S_, .f32⟩
  | 83 => ⟨S4x96x112x112, .f32⟩
  | 84 => ⟨S4x96x112x112, .f32⟩
  | 85 => ⟨S4x96x112x112, .f32⟩
  | 86 => ⟨S4x96x112x112, .f32⟩
  | 87 => ⟨S_, .f32⟩
  | 88 => ⟨S4x96x112x112, .f32⟩
  | 89 => ⟨S4x96x112x112, .f32⟩
  | 90 => ⟨S4x96x112x112, .f32⟩
  | 91 => ⟨S4x96x112x112, .f32⟩
  | 92 => ⟨S_, .f32⟩
  | 93 => ⟨S4x96x112x112, .f32⟩
  | 94 => ⟨S4x96x112x112, .f32⟩
  | 95 => ⟨S4x96x112x112, .f32⟩
  | 96 => ⟨S4x96x112x112, .f32⟩
  | 97 => ⟨S_, .f32⟩
  | 98 => ⟨S4x96x112x112, .f32⟩
  | 99 => ⟨S4x96x112x112, .f32⟩
  | 100 => ⟨S4x96x112x112, .f32⟩
  | 101 => ⟨S4x96x112x112, .f32⟩
  | 102 => ⟨S_, .f32⟩
  | 103 => ⟨S4x96x112x112, .f32⟩
  | 104 => ⟨S4x96x112x112, .f32⟩
  | 105 => ⟨S4x96x112x112, .f32⟩
  | 106 => ⟨S4x96x112x112, .f32⟩
  | 107 => ⟨S_, .f32⟩
  | 108 => ⟨S4x96x112x112, .f32⟩
  | 109 => ⟨S4x96x112x112, .f32⟩
  | 110 => ⟨S4x96x112x112, .f32⟩
  | 111 => ⟨S4x96x112x112, .f32⟩
  | 112 => ⟨S_, .f32⟩
  | 113 => ⟨S4x96x112x112, .f32⟩
  | 114 => ⟨S4x96x112x112, .f32⟩
  | 115 => ⟨S4x96x112x112, .f32⟩
  | 116 => ⟨S4x96x112x112, .f32⟩
  | 117 => ⟨S_, .f32⟩
  | 118 => ⟨S4x96x112x112, .f32⟩
  | 119 => ⟨S4x96x112x112, .f32⟩
  | 120 => ⟨S4x96x112x112, .f32⟩
  | 121 => ⟨S4x96x112x112, .f32⟩
  | 122 => ⟨S_, .f32⟩
  | 123 => ⟨S4x96x112x112, .f32⟩
  | 124 => ⟨S4x96x112x112, .f32⟩
  | 125 => ⟨S4x96x112x112, .f32⟩
  | 126 => ⟨S4x96x112x112, .f32⟩
  | 127 => ⟨S_, .f32⟩
  | _ => ⟨S4x96x224x224, .f32⟩

abbrev hbmTy0_4 (i : Nat) : BufTy := match i % 128 with
  | 0 => ⟨S4x96x112x112, .f32⟩
  | 1 => ⟨S4x96x112x112, .f32⟩
  | 2 => ⟨S4x96x112x112, .f32⟩
  | 3 => ⟨S4x96x112x112, .f32⟩
  | 4 => ⟨S_, .f32⟩
  | 5 => ⟨S4x96x112x112, .f32⟩
  | 6 => ⟨S4x96x112x112, .f32⟩
  | 7 => ⟨S4x96x112x112, .f32⟩
  | 8 => ⟨S4x96x112x112, .f32⟩
  | 9 => ⟨S_, .f32⟩
  | 10 => ⟨S4x96x112x112, .f32⟩
  | 11 => ⟨S4x96x112x112, .f32⟩
  | 12 => ⟨S4x96x112x112, .f32⟩
  | 13 => ⟨S4x96x112x112, .f32⟩
  | 14 => ⟨S_, .f32⟩
  | 15 => ⟨S4x96x112x112, .f32⟩
  | 16 => ⟨S4x96x112x112, .f32⟩
  | 17 => ⟨S4x96x112x112, .f32⟩
  | 18 => ⟨S4x1204224, .f32⟩
  | 19 => ⟨S_, .f32⟩
  | 20 => ⟨S4x1204224, .f32⟩
  | 21 => ⟨S4x1204224, .i1⟩
  | 22 => ⟨S_, .f32⟩
  | 23 => ⟨S4x1204224, .f32⟩
  | 24 => ⟨S4x1204224, .i1⟩
  | 25 => ⟨S4x1204224, .i1⟩
  | 26 => ⟨S4x1204224, .f32⟩
  | 27 => ⟨S_, .f32⟩
  | 28 => ⟨S4x1204224, .f32⟩
  | 29 => ⟨S4x1204224, .f32⟩
  | 30 => ⟨S4x1204224, .f32⟩
  | 31 => ⟨S4x1204224, .i32⟩
  | 32 => ⟨S_, .i32⟩
  | 33 => ⟨S_, .i32⟩
  | 34 => ⟨S_, .i32⟩
  | 35 => ⟨S4x1204224, .i32⟩
  | 36 => ⟨S4x1204224, .i32⟩
  | 37 => ⟨S_, .i32⟩
  | 38 => ⟨S4x1204224, .i32⟩
  | 39 => ⟨S4x1204224, .i32⟩
  | 40 => ⟨S4x1204224x1, .i32⟩
  | 41 => ⟨S25, .i32⟩
  | 42 => ⟨S1x1x25, .i32⟩
  | 43 => ⟨S4x1204224x25, .i32⟩
  | 44 => ⟨S4x1204224x25, .i32⟩
  | 45 => ⟨S4x1204224x25, .i1⟩
  | 46 => ⟨S4x1204224x1, .f32⟩
  | 47 => ⟨S_, .f32⟩
  | 48 => ⟨S_, .f32⟩
  | 49 => ⟨S4x1204224x25, .f32⟩
  | 50 => ⟨S4x1204224x25, .f32⟩
  | 51 => ⟨S4x1204224x25, .f32⟩
  | 52 => ⟨S_, .f32⟩
  | 53 => ⟨S4x25, .f32⟩
  | 54 => ⟨S4x1204224, .f32⟩
  | 55 => ⟨S_, .f32⟩
  | 56 => ⟨S4x1204224, .f32⟩
  | 57 => ⟨S4x1204224, .i1⟩
  | 58 => ⟨S_, .f32⟩
  | 59 => ⟨S4x1204224, .f32⟩
  | 60 => ⟨S4x1204224, .i1⟩
  | 61 => ⟨S4x1204224, .i1⟩
  | 62 => ⟨S4x1204224, .f32⟩
  | 63 => ⟨S_, .f32⟩
  | 64 => ⟨S4x1204224, .f32⟩
  | 65 => ⟨S4x1204224, .f32⟩
  | 66 => ⟨S4x1204224, .f32⟩
  | 67 => ⟨S4x1204224, .i32⟩
  | 68 => ⟨S_, .i32⟩
  | 69 => ⟨S_, .i32⟩
  | 70 => ⟨S_, .i32⟩
  | 71 => ⟨S4x1204224, .i32⟩
  | 72 => ⟨S4x1204224, .i32⟩
  | 73 => ⟨S_, .i32⟩
  | 74 => ⟨S4x1204224, .i32⟩
  | 75 => ⟨S4x1204224, .i32⟩
  | 76 => ⟨S4x1204224x1, .i32⟩
  | 77 => ⟨S25, .i32⟩
  | 78 => ⟨S1x1x25, .i32⟩
  | 79 => ⟨S4x1204224x25, .i32⟩
  | 80 => ⟨S4x1204224x25, .i32⟩
  | 81 => ⟨S4x1204224x25, .i1⟩
  | 82 => ⟨S4x1204224x1, .f32⟩
  | 83 => ⟨S_, .f32⟩
  | 84 => ⟨S_, .f32⟩
  | 85 => ⟨S4x1204224x25, .f32⟩
  | 86 => ⟨S4x1204224x25, .f32⟩
  | 87 => ⟨S4x1204224x25, .f32⟩
  | 88 => ⟨S_, .f32⟩
  | 89 => ⟨S4x25, .f32⟩
  | 90 => ⟨S_, .f32⟩
  | 91 => ⟨S1x25, .f32⟩
  | 92 => ⟨S_, .f32⟩
  | 93 => ⟨S_, .f32⟩
  | 94 => ⟨S4x25, .f32⟩
  | 95 => ⟨S5x25, .f32⟩
  | 96 => ⟨S_, .f32⟩
  | 97 => ⟨S1x25, .f32⟩
  | 98 => ⟨S_, .f32⟩
  | 99 => ⟨S_, .f32⟩
  | 100 => ⟨S4x25, .f32⟩
  | 101 => ⟨S5x25, .f32⟩
  | 102 => ⟨S4, .i32⟩
  | 103 => ⟨S4x1, .i32⟩
  | 104 => ⟨S96, .i32⟩
  | 105 => ⟨S1x96, .i32⟩
  | 106 => ⟨S_, .i32⟩
  | 107 => ⟨S1x96, .i32⟩
  | 108 => ⟨S1x96, .i32⟩
  | 109 => ⟨S4x96, .i32⟩
  | 110 => ⟨S4x96, .i32⟩
  | 111 => ⟨S4x96, .i1⟩
  | 112 => ⟨S4x96, .f32⟩
  | 113 => ⟨S_, .i32⟩
  | 114 => ⟨S1x96, .i32⟩
  | 115 => ⟨S1x96, .i1⟩
  | 116 => ⟨S_, .i32⟩
  | 117 => ⟨S1x96, .i32⟩
  | 118 => ⟨S1x96, .i32⟩
  | 119 => ⟨S1x96, .i32⟩
  | 120 => ⟨S1x96x1, .i32⟩
  | 121 => ⟨S1x96x25, .f32⟩
  | 122 => ⟨S_, .i32⟩
  | 123 => ⟨S4x1, .i32⟩
  | 124 => ⟨S4x1, .i1⟩
  | 125 => ⟨S_, .i32⟩
  | 126 => ⟨S4x1, .i32⟩
  | 127 => ⟨S4x1, .i32⟩
  | _ => ⟨S4x96x224x224, .f32⟩

abbrev hbmTy0_5 (i : Nat) : BufTy := match i % 128 with
  | 0 => ⟨S4x1, .i32⟩
  | 1 => ⟨S4x1x1, .i32⟩
  | 2 => ⟨S4x1x25, .f32⟩
  | 3 => ⟨S4x96x25, .f32⟩
  | 4 => ⟨S4x96x25, .f32⟩
  | 5 => ⟨S4x96x25, .f32⟩
  | 6 => ⟨S4x96x1, .f32⟩
  | 7 => ⟨S4x96x25, .f32⟩
  | 8 => ⟨S4x96x25, .f32⟩
  | 9 => ⟨S_, .f32⟩
  | 10 => ⟨S4x96x25, .f32⟩
  | 11 => ⟨S4x96x25, .f32⟩
  | 12 => ⟨S_, .i32⟩
  | 13 => ⟨S1x96, .i32⟩
  | 14 => ⟨S1x96, .i1⟩
  | 15 => ⟨S_, .i32⟩
  | 16 => ⟨S1x96, .i32⟩
  | 17 => ⟨S1x96, .i32⟩
  | 18 => ⟨S1x96, .i32⟩
  | 19 => ⟨S1x96x1, .i32⟩
  | 20 => ⟨S1x96x25, .f32⟩
  | 21 => ⟨S_, .i32⟩
  | 22 => ⟨S4x1, .i32⟩
  | 23 => ⟨S4x1, .i1⟩
  | 24 => ⟨S_, .i32⟩
  | 25 => ⟨S4x1, .i32⟩
  | 26 => ⟨S4x1, .i32⟩
  | 27 => ⟨S4x1, .i32⟩
  | 28 => ⟨S4x1x1, .i32⟩
  | 29 => ⟨S4x1x25, .f32⟩
  | 30 => ⟨S4x96x25, .f32⟩
  | 31 => ⟨S4x96x25, .f32⟩
  | 32 => ⟨S4x96x25, .f32⟩
  | 33 => ⟨S4x96x1, .f32⟩
  | 34 => ⟨S4x96x25, .f32⟩
  | 35 => ⟨S4x96x25, .f32⟩
  | 36 => ⟨S_, .f32⟩
  | 37 => ⟨S4x96x25, .f32⟩
  | 38 => ⟨S4x96x25, .f32⟩
  | 39 => ⟨S4x96x25, .f32⟩
  | 40 => ⟨S_, .f32⟩
  | 41 => ⟨S4x96, .f32⟩
  | 42 => ⟨S4x96x25, .f32⟩
  | 43 => ⟨S_, .f32⟩
  | 44 => ⟨S4x96, .f32⟩
  | 45 => ⟨S4x96, .f32⟩
  | 46 => ⟨S4x96x25, .f32⟩
  | 47 => ⟨S_, .f32⟩
  | 48 => ⟨S4x96, .f32⟩
  | 49 => ⟨S4x96, .f32⟩
  | 50 => ⟨S4x96, .f32⟩
  | 51 => ⟨S_, .f32⟩
  | 52 => ⟨S4x96, .f32⟩
  | 53 => ⟨S4x96, .f32⟩
  | 54 => ⟨S4x96, .f32⟩
  | 55 => ⟨S_, .f32⟩
  | 56 => ⟨S_, .f32⟩
  | 57 => ⟨S_, .f32⟩
  | 58 => ⟨S_, .f32⟩
  | 59 => ⟨S1x1, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_19 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_21 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_22 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_23 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_24 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_27 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_28 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_29 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_30 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_31 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_32 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_33 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_34 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_35 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_36 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_37 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_38 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_39 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_40 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_41 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_42 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_43 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_cst_44 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_45 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_46 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_47 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_48 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_c_49 : Ref sig .tc := ⟨.hbm, 266, rfl⟩
abbrev main_call1_v0 : Ref sig .tc := ⟨.hbm, 267, rfl⟩
abbrev main_call1_v1 : Ref sig .tc := ⟨.hbm, 268, rfl⟩
abbrev main_call1_v2 : Ref sig .tc := ⟨.hbm, 269, rfl⟩
abbrev main_call1_v3 : Ref sig .tc := ⟨.hbm, 270, rfl⟩
abbrev main_call1_v4 : Ref sig .tc := ⟨.hbm, 271, rfl⟩
abbrev main_call1_v5 : Ref sig .tc := ⟨.hbm, 272, rfl⟩
abbrev main_call1_v6 : Ref sig .tc := ⟨.hbm, 273, rfl⟩
abbrev main_call1_v7 : Ref sig .tc := ⟨.hbm, 274, rfl⟩
abbrev main_call1_v8 : Ref sig .tc := ⟨.hbm, 275, rfl⟩
abbrev main_call1_v9 : Ref sig .tc := ⟨.hbm, 276, rfl⟩
abbrev main_call1_v10 : Ref sig .tc := ⟨.hbm, 277, rfl⟩
abbrev main_call1_v11 : Ref sig .tc := ⟨.hbm, 278, rfl⟩
abbrev main_call1_v12 : Ref sig .tc := ⟨.hbm, 279, rfl⟩
abbrev main_call1_v13 : Ref sig .tc := ⟨.hbm, 280, rfl⟩
abbrev main_call1_v14 : Ref sig .tc := ⟨.hbm, 281, rfl⟩
abbrev main_v198 : Ref sig .tc := ⟨.hbm, 282, rfl⟩
abbrev main_cst_50 : Ref sig .tc := ⟨.hbm, 283, rfl⟩
abbrev main_v199 : Ref sig .tc := ⟨.hbm, 284, rfl⟩
abbrev main_v200 : Ref sig .tc := ⟨.hbm, 285, rfl⟩
abbrev main_cst_51 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_cst_52 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_cst_53 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_54 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_cst_55 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_cst_56 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_cst_57 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_cst_58 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_cst_59 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_cst_60 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_cst_61 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_cst_62 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_cst_63 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_cst_64 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_cst_65 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_cst_66 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_cst_67 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_cst_68 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_cst_69 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_cst_70 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_cst_71 : Ref sig .tc := ⟨.hbm, 386, rfl⟩
abbrev main_v281 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_cst_72 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_cst_73 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_cst_74 : Ref sig .tc := ⟨.hbm, 401, rfl⟩
abbrev main_v293 : Ref sig .tc := ⟨.hbm, 402, rfl⟩
abbrev main_v294 : Ref sig .tc := ⟨.hbm, 403, rfl⟩
abbrev main_v295 : Ref sig .tc := ⟨.hbm, 404, rfl⟩
abbrev main_v296 : Ref sig .tc := ⟨.hbm, 405, rfl⟩
abbrev main_cst_75 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_76 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_v304 : Ref sig .tc := ⟨.hbm, 415, rfl⟩
abbrev main_cst_77 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_cst_78 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_cst_79 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_v316 : Ref sig .tc := ⟨.hbm, 430, rfl⟩
abbrev main_cst_80 : Ref sig .tc := ⟨.hbm, 431, rfl⟩
abbrev main_v317 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_cst_81 : Ref sig .tc := ⟨.hbm, 436, rfl⟩
abbrev main_v321 : Ref sig .tc := ⟨.hbm, 437, rfl⟩
abbrev main_v322 : Ref sig .tc := ⟨.hbm, 438, rfl⟩
abbrev main_v323 : Ref sig .tc := ⟨.hbm, 439, rfl⟩
abbrev main_v324 : Ref sig .tc := ⟨.hbm, 440, rfl⟩
abbrev main_cst_82 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_cst_83 : Ref sig .tc := ⟨.hbm, 446, rfl⟩
abbrev main_v329 : Ref sig .tc := ⟨.hbm, 447, rfl⟩
abbrev main_v330 : Ref sig .tc := ⟨.hbm, 448, rfl⟩
abbrev main_v331 : Ref sig .tc := ⟨.hbm, 449, rfl⟩
abbrev main_v332 : Ref sig .tc := ⟨.hbm, 450, rfl⟩
abbrev main_cst_84 : Ref sig .tc := ⟨.hbm, 451, rfl⟩
abbrev main_v333 : Ref sig .tc := ⟨.hbm, 452, rfl⟩
abbrev main_v334 : Ref sig .tc := ⟨.hbm, 453, rfl⟩
abbrev main_v335 : Ref sig .tc := ⟨.hbm, 454, rfl⟩
abbrev main_v336 : Ref sig .tc := ⟨.hbm, 455, rfl⟩
abbrev main_cst_85 : Ref sig .tc := ⟨.hbm, 456, rfl⟩
abbrev main_v337 : Ref sig .tc := ⟨.hbm, 457, rfl⟩
abbrev main_v338 : Ref sig .tc := ⟨.hbm, 458, rfl⟩
abbrev main_v339 : Ref sig .tc := ⟨.hbm, 459, rfl⟩
abbrev main_v340 : Ref sig .tc := ⟨.hbm, 460, rfl⟩
abbrev main_cst_86 : Ref sig .tc := ⟨.hbm, 461, rfl⟩
abbrev main_v341 : Ref sig .tc := ⟨.hbm, 462, rfl⟩
abbrev main_v342 : Ref sig .tc := ⟨.hbm, 463, rfl⟩
abbrev main_v343 : Ref sig .tc := ⟨.hbm, 464, rfl⟩
abbrev main_v344 : Ref sig .tc := ⟨.hbm, 465, rfl⟩
abbrev main_cst_87 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_cst_88 : Ref sig .tc := ⟨.hbm, 471, rfl⟩
abbrev main_v349 : Ref sig .tc := ⟨.hbm, 472, rfl⟩
abbrev main_v350 : Ref sig .tc := ⟨.hbm, 473, rfl⟩
abbrev main_v351 : Ref sig .tc := ⟨.hbm, 474, rfl⟩
abbrev main_v352 : Ref sig .tc := ⟨.hbm, 475, rfl⟩
abbrev main_cst_89 : Ref sig .tc := ⟨.hbm, 476, rfl⟩
abbrev main_v353 : Ref sig .tc := ⟨.hbm, 477, rfl⟩
abbrev main_v354 : Ref sig .tc := ⟨.hbm, 478, rfl⟩
abbrev main_v355 : Ref sig .tc := ⟨.hbm, 479, rfl⟩
abbrev main_v356 : Ref sig .tc := ⟨.hbm, 480, rfl⟩
abbrev main_cst_90 : Ref sig .tc := ⟨.hbm, 481, rfl⟩
abbrev main_v357 : Ref sig .tc := ⟨.hbm, 482, rfl⟩
abbrev main_v358 : Ref sig .tc := ⟨.hbm, 483, rfl⟩
abbrev main_v359 : Ref sig .tc := ⟨.hbm, 484, rfl⟩
abbrev main_v360 : Ref sig .tc := ⟨.hbm, 485, rfl⟩
abbrev main_cst_91 : Ref sig .tc := ⟨.hbm, 486, rfl⟩
abbrev main_v361 : Ref sig .tc := ⟨.hbm, 487, rfl⟩
abbrev main_v362 : Ref sig .tc := ⟨.hbm, 488, rfl⟩
abbrev main_v363 : Ref sig .tc := ⟨.hbm, 489, rfl⟩
abbrev main_v364 : Ref sig .tc := ⟨.hbm, 490, rfl⟩
abbrev main_cst_92 : Ref sig .tc := ⟨.hbm, 491, rfl⟩
abbrev main_v365 : Ref sig .tc := ⟨.hbm, 492, rfl⟩
abbrev main_v366 : Ref sig .tc := ⟨.hbm, 493, rfl⟩
abbrev main_v367 : Ref sig .tc := ⟨.hbm, 494, rfl⟩
abbrev main_v368 : Ref sig .tc := ⟨.hbm, 495, rfl⟩
abbrev main_cst_93 : Ref sig .tc := ⟨.hbm, 496, rfl⟩
abbrev main_v369 : Ref sig .tc := ⟨.hbm, 497, rfl⟩
abbrev main_v370 : Ref sig .tc := ⟨.hbm, 498, rfl⟩
abbrev main_v371 : Ref sig .tc := ⟨.hbm, 499, rfl⟩
abbrev main_v372 : Ref sig .tc := ⟨.hbm, 500, rfl⟩
abbrev main_cst_94 : Ref sig .tc := ⟨.hbm, 501, rfl⟩
abbrev main_v373 : Ref sig .tc := ⟨.hbm, 502, rfl⟩
abbrev main_v374 : Ref sig .tc := ⟨.hbm, 503, rfl⟩
abbrev main_v375 : Ref sig .tc := ⟨.hbm, 504, rfl⟩
abbrev main_v376 : Ref sig .tc := ⟨.hbm, 505, rfl⟩
abbrev main_cst_95 : Ref sig .tc := ⟨.hbm, 506, rfl⟩
abbrev main_v377 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_cst_96 : Ref sig .tc := ⟨.hbm, 511, rfl⟩
abbrev main_v381 : Ref sig .tc := ⟨.hbm, 512, rfl⟩
abbrev main_v382 : Ref sig .tc := ⟨.hbm, 513, rfl⟩
abbrev main_v383 : Ref sig .tc := ⟨.hbm, 514, rfl⟩
abbrev main_v384 : Ref sig .tc := ⟨.hbm, 515, rfl⟩
abbrev main_cst_97 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_v388 : Ref sig .tc := ⟨.hbm, 520, rfl⟩
abbrev main_cst_98 : Ref sig .tc := ⟨.hbm, 521, rfl⟩
abbrev main_v389 : Ref sig .tc := ⟨.hbm, 522, rfl⟩
abbrev main_v390 : Ref sig .tc := ⟨.hbm, 523, rfl⟩
abbrev main_v391 : Ref sig .tc := ⟨.hbm, 524, rfl⟩
abbrev main_v392 : Ref sig .tc := ⟨.hbm, 525, rfl⟩
abbrev main_cst_99 : Ref sig .tc := ⟨.hbm, 526, rfl⟩
abbrev main_v393 : Ref sig .tc := ⟨.hbm, 527, rfl⟩
abbrev main_v394 : Ref sig .tc := ⟨.hbm, 528, rfl⟩
abbrev main_v395 : Ref sig .tc := ⟨.hbm, 529, rfl⟩
abbrev main_v396 : Ref sig .tc := ⟨.hbm, 530, rfl⟩
abbrev main_cst_100 : Ref sig .tc := ⟨.hbm, 531, rfl⟩
abbrev main_v397 : Ref sig .tc := ⟨.hbm, 532, rfl⟩
abbrev main_v398 : Ref sig .tc := ⟨.hbm, 533, rfl⟩
abbrev main_cst_101 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_cst_102 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_v406 : Ref sig .tc := ⟨.hbm, 543, rfl⟩
abbrev main_c_103 : Ref sig .tc := ⟨.hbm, 544, rfl⟩
abbrev main_c_104 : Ref sig .tc := ⟨.hbm, 545, rfl⟩
abbrev main_call2_v0 : Ref sig .tc := ⟨.hbm, 546, rfl⟩
abbrev main_call2_v1 : Ref sig .tc := ⟨.hbm, 547, rfl⟩
abbrev main_call2_v2 : Ref sig .tc := ⟨.hbm, 548, rfl⟩
abbrev main_call2_v3 : Ref sig .tc := ⟨.hbm, 549, rfl⟩
abbrev main_call2_v4 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_v413 : Ref sig .tc := ⟨.hbm, 557, rfl⟩
abbrev main_v414 : Ref sig .tc := ⟨.hbm, 558, rfl⟩
abbrev main_cst_105 : Ref sig .tc := ⟨.hbm, 559, rfl⟩
abbrev main_call3_v0 : Ref sig .tc := ⟨.hbm, 560, rfl⟩
abbrev main_call3_v1 : Ref sig .tc := ⟨.hbm, 561, rfl⟩
abbrev main_call3_v2 : Ref sig .tc := ⟨.hbm, 562, rfl⟩
abbrev main_v415 : Ref sig .tc := ⟨.hbm, 563, rfl⟩
abbrev main_cst_106 : Ref sig .tc := ⟨.hbm, 564, rfl⟩
abbrev main_v416 : Ref sig .tc := ⟨.hbm, 565, rfl⟩
abbrev main_v417 : Ref sig .tc := ⟨.hbm, 566, rfl⟩
abbrev main_cst_107 : Ref sig .tc := ⟨.hbm, 567, rfl⟩
abbrev main_v418 : Ref sig .tc := ⟨.hbm, 568, rfl⟩
abbrev main_v419 : Ref sig .tc := ⟨.hbm, 569, rfl⟩
abbrev main_cst_108 : Ref sig .tc := ⟨.hbm, 570, rfl⟩
abbrev main_v420 : Ref sig .tc := ⟨.hbm, 571, rfl⟩
abbrev main_v421 : Ref sig .tc := ⟨.hbm, 572, rfl⟩
abbrev main_v422 : Ref sig .tc := ⟨.hbm, 573, rfl⟩
abbrev main_v423 : Ref sig .tc := ⟨.hbm, 574, rfl⟩
abbrev main_cst_109 : Ref sig .tc := ⟨.hbm, 575, rfl⟩
abbrev main_v424 : Ref sig .tc := ⟨.hbm, 576, rfl⟩
abbrev main_v425 : Ref sig .tc := ⟨.hbm, 577, rfl⟩
abbrev main_v426 : Ref sig .tc := ⟨.hbm, 578, rfl⟩
abbrev main_v427 : Ref sig .tc := ⟨.hbm, 579, rfl⟩
abbrev main_c_110 : Ref sig .tc := ⟨.hbm, 580, rfl⟩
abbrev main_c_111 : Ref sig .tc := ⟨.hbm, 581, rfl⟩
abbrev main_call4_v0 : Ref sig .tc := ⟨.hbm, 582, rfl⟩
abbrev main_call4_v1 : Ref sig .tc := ⟨.hbm, 583, rfl⟩
abbrev main_call4_v2 : Ref sig .tc := ⟨.hbm, 584, rfl⟩
abbrev main_call4_v3 : Ref sig .tc := ⟨.hbm, 585, rfl⟩
abbrev main_call4_v4 : Ref sig .tc := ⟨.hbm, 586, rfl⟩
abbrev main_v428 : Ref sig .tc := ⟨.hbm, 587, rfl⟩
abbrev main_v429 : Ref sig .tc := ⟨.hbm, 588, rfl⟩
abbrev main_v430 : Ref sig .tc := ⟨.hbm, 589, rfl⟩
abbrev main_v431 : Ref sig .tc := ⟨.hbm, 590, rfl⟩
abbrev main_v432 : Ref sig .tc := ⟨.hbm, 591, rfl⟩
abbrev main_v433 : Ref sig .tc := ⟨.hbm, 592, rfl⟩
abbrev main_v434 : Ref sig .tc := ⟨.hbm, 593, rfl⟩
abbrev main_v435 : Ref sig .tc := ⟨.hbm, 594, rfl⟩
abbrev main_cst_112 : Ref sig .tc := ⟨.hbm, 595, rfl⟩
abbrev main_call5_v0 : Ref sig .tc := ⟨.hbm, 596, rfl⟩
abbrev main_call5_v1 : Ref sig .tc := ⟨.hbm, 597, rfl⟩
abbrev main_call5_v2 : Ref sig .tc := ⟨.hbm, 598, rfl⟩
abbrev main_v436 : Ref sig .tc := ⟨.hbm, 599, rfl⟩
abbrev main_cst_113 : Ref sig .tc := ⟨.hbm, 600, rfl⟩
abbrev main_v437 : Ref sig .tc := ⟨.hbm, 601, rfl⟩
abbrev main_cst_114 : Ref sig .tc := ⟨.hbm, 602, rfl⟩
abbrev main_v438 : Ref sig .tc := ⟨.hbm, 603, rfl⟩
abbrev main_call6_call0_cst : Ref sig .tc := ⟨.hbm, 604, rfl⟩
abbrev main_call6_call0_v0 : Ref sig .tc := ⟨.hbm, 605, rfl⟩
abbrev main_v439 : Ref sig .tc := ⟨.hbm, 606, rfl⟩
abbrev main_v440 : Ref sig .tc := ⟨.hbm, 607, rfl⟩
abbrev main_cst_115 : Ref sig .tc := ⟨.hbm, 608, rfl⟩
abbrev main_v441 : Ref sig .tc := ⟨.hbm, 609, rfl⟩
abbrev main_call7_call0_cst : Ref sig .tc := ⟨.hbm, 610, rfl⟩
abbrev main_call7_call0_v0 : Ref sig .tc := ⟨.hbm, 611, rfl⟩
abbrev main_v442 : Ref sig .tc := ⟨.hbm, 612, rfl⟩
abbrev main_v443 : Ref sig .tc := ⟨.hbm, 613, rfl⟩
abbrev main_v444 : Ref sig .tc := ⟨.hbm, 614, rfl⟩
abbrev main_v445 : Ref sig .tc := ⟨.hbm, 615, rfl⟩
abbrev main_v446 : Ref sig .tc := ⟨.hbm, 616, rfl⟩
abbrev main_v447 : Ref sig .tc := ⟨.hbm, 617, rfl⟩
abbrev main_c_116 : Ref sig .tc := ⟨.hbm, 618, rfl⟩
abbrev main_v448 : Ref sig .tc := ⟨.hbm, 619, rfl⟩
abbrev main_v449 : Ref sig .tc := ⟨.hbm, 620, rfl⟩
abbrev main_v450 : Ref sig .tc := ⟨.hbm, 621, rfl⟩
abbrev main_v451 : Ref sig .tc := ⟨.hbm, 622, rfl⟩
abbrev main_v452 : Ref sig .tc := ⟨.hbm, 623, rfl⟩
abbrev main_v453 : Ref sig .tc := ⟨.hbm, 624, rfl⟩
abbrev main_c_117 : Ref sig .tc := ⟨.hbm, 625, rfl⟩
abbrev main_v454 : Ref sig .tc := ⟨.hbm, 626, rfl⟩
abbrev main_v455 : Ref sig .tc := ⟨.hbm, 627, rfl⟩
abbrev main_c_118 : Ref sig .tc := ⟨.hbm, 628, rfl⟩
abbrev main_v456 : Ref sig .tc := ⟨.hbm, 629, rfl⟩
abbrev main_v457 : Ref sig .tc := ⟨.hbm, 630, rfl⟩
abbrev main_v458 : Ref sig .tc := ⟨.hbm, 631, rfl⟩
abbrev main_v459 : Ref sig .tc := ⟨.hbm, 632, rfl⟩
abbrev main_v460 : Ref sig .tc := ⟨.hbm, 633, rfl⟩
abbrev main_c_119 : Ref sig .tc := ⟨.hbm, 634, rfl⟩
abbrev main_v461 : Ref sig .tc := ⟨.hbm, 635, rfl⟩
abbrev main_v462 : Ref sig .tc := ⟨.hbm, 636, rfl⟩
abbrev main_c_120 : Ref sig .tc := ⟨.hbm, 637, rfl⟩
abbrev main_v463 : Ref sig .tc := ⟨.hbm, 638, rfl⟩
abbrev main_v464 : Ref sig .tc := ⟨.hbm, 639, rfl⟩
abbrev main_v465 : Ref sig .tc := ⟨.hbm, 640, rfl⟩
abbrev main_v466 : Ref sig .tc := ⟨.hbm, 641, rfl⟩
abbrev main_v467 : Ref sig .tc := ⟨.hbm, 642, rfl⟩
abbrev main_v468 : Ref sig .tc := ⟨.hbm, 643, rfl⟩
abbrev main_v469 : Ref sig .tc := ⟨.hbm, 644, rfl⟩
abbrev main_v470 : Ref sig .tc := ⟨.hbm, 645, rfl⟩
abbrev main_v471 : Ref sig .tc := ⟨.hbm, 646, rfl⟩
abbrev main_v472 : Ref sig .tc := ⟨.hbm, 647, rfl⟩
abbrev main_v473 : Ref sig .tc := ⟨.hbm, 648, rfl⟩
abbrev main_cst_121 : Ref sig .tc := ⟨.hbm, 649, rfl⟩
abbrev main_v474 : Ref sig .tc := ⟨.hbm, 650, rfl⟩
abbrev main_v475 : Ref sig .tc := ⟨.hbm, 651, rfl⟩
abbrev main_c_122 : Ref sig .tc := ⟨.hbm, 652, rfl⟩
abbrev main_v476 : Ref sig .tc := ⟨.hbm, 653, rfl⟩
abbrev main_v477 : Ref sig .tc := ⟨.hbm, 654, rfl⟩
abbrev main_c_123 : Ref sig .tc := ⟨.hbm, 655, rfl⟩
abbrev main_v478 : Ref sig .tc := ⟨.hbm, 656, rfl⟩
abbrev main_v479 : Ref sig .tc := ⟨.hbm, 657, rfl⟩
abbrev main_v480 : Ref sig .tc := ⟨.hbm, 658, rfl⟩
abbrev main_v481 : Ref sig .tc := ⟨.hbm, 659, rfl⟩
abbrev main_v482 : Ref sig .tc := ⟨.hbm, 660, rfl⟩
abbrev main_c_124 : Ref sig .tc := ⟨.hbm, 661, rfl⟩
abbrev main_v483 : Ref sig .tc := ⟨.hbm, 662, rfl⟩
abbrev main_v484 : Ref sig .tc := ⟨.hbm, 663, rfl⟩
abbrev main_c_125 : Ref sig .tc := ⟨.hbm, 664, rfl⟩
abbrev main_v485 : Ref sig .tc := ⟨.hbm, 665, rfl⟩
abbrev main_v486 : Ref sig .tc := ⟨.hbm, 666, rfl⟩
abbrev main_v487 : Ref sig .tc := ⟨.hbm, 667, rfl⟩
abbrev main_v488 : Ref sig .tc := ⟨.hbm, 668, rfl⟩
abbrev main_v489 : Ref sig .tc := ⟨.hbm, 669, rfl⟩
abbrev main_v490 : Ref sig .tc := ⟨.hbm, 670, rfl⟩
abbrev main_v491 : Ref sig .tc := ⟨.hbm, 671, rfl⟩
abbrev main_v492 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_cst_126 : Ref sig .tc := ⟨.hbm, 676, rfl⟩
abbrev main_v496 : Ref sig .tc := ⟨.hbm, 677, rfl⟩
abbrev main_v497 : Ref sig .tc := ⟨.hbm, 678, rfl⟩
abbrev main_v498 : Ref sig .tc := ⟨.hbm, 679, rfl⟩
abbrev main_cst_127 : Ref sig .tc := ⟨.hbm, 680, rfl⟩
abbrev main_v499 : Ref sig .tc := ⟨.hbm, 681, rfl⟩
abbrev main_v500 : Ref sig .tc := ⟨.hbm, 682, rfl⟩
abbrev main_cst_128 : Ref sig .tc := ⟨.hbm, 683, rfl⟩
abbrev main_v501 : Ref sig .tc := ⟨.hbm, 684, rfl⟩
abbrev main_v502 : Ref sig .tc := ⟨.hbm, 685, rfl⟩
abbrev main_v503 : Ref sig .tc := ⟨.hbm, 686, rfl⟩
abbrev main_cst_129 : Ref sig .tc := ⟨.hbm, 687, rfl⟩
abbrev main_v504 : Ref sig .tc := ⟨.hbm, 688, rfl⟩
abbrev main_v505 : Ref sig .tc := ⟨.hbm, 689, rfl⟩
abbrev main_v506 : Ref sig .tc := ⟨.hbm, 690, rfl⟩
abbrev main_cst_130 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_cst_131 : Ref sig .tc := ⟨.hbm, 695, rfl⟩
abbrev main_v510 : Ref sig .tc := ⟨.hbm, 696, rfl⟩
abbrev main_cst_132 : Ref sig .tc := ⟨.hbm, 697, rfl⟩
abbrev main_v511 : Ref sig .tc := ⟨.hbm, 698, rfl⟩
abbrev main_v512 : Ref sig .tc := ⟨.hbm, 699, rfl⟩

abbrev nD : Nat := 1
abbrev τ : Topo := Topo.v7x

variable {F : FTy → Type} [FloatOps F]
-- ==== Proof.Frames.lean ====
/-
  The frame claims and the idealization claim.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The precondition's one shape fact. -/
theorem preFacts : Cert.Pre_unit_range.Facts := ⟨by decide⟩

/-- The kernel as printed runs, keeps its arguments and leaves every counter at zero. -/
theorem kernel : Cert.quiescent_Kernel := fun m ρ _ => Cert.Kernel.Gen.frame m ρ

/-- The idealized kernel runs, keeps its arguments and leaves every counter at zero. -/
theorem kernelIdeal : Cert.quiescent_KernelIdeal := fun m ρ _ => Cert.KernelIdeal.Gen.frame m ρ

/-- The reference runs, keeps its arguments and leaves every counter at zero. -/
theorem referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The named constant is the printed word's, exactly as the rule states. -/
theorem preserves : Cert.preserves_Kernel_KernelIdeal :=
  IdealRules.named_const.statement Cert.KernelIdeal.κ "inv_shape" .f32 0x37A72F05#32 ((1 / 50176 : ℝ) : EReal) rfl

end Cert.Frames

end
-- ==== Proof.Tile.lean ====
/-
  What one grid point adds to a row of a scratch: the thirty-two images of the point's block, folded image by image
  into twenty-four capped sums.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.Tile

open Idealize.ShloMosaic Idealize.ShloMosaic.TcCoe Idealize.SL.Sem
open Cert.KernelIdeal Cert.KernelIdeal.Gen

variable {F : FTy → Type} [FloatOps F] [Named F]

/-- The block's images, stacked, times the blur matrix. -/
def stacked (x : Vec F S1x32x224x224 .f32) (a : Vec F S224x112 .f32) : FVec F S7168x112 .f32 :=
  matmul dot_S7168x224_S224x112_S7168x112_1_0_0_1_n_n none
    (shapeCast S7168x224 (shapeCast S32x224x224 x shapeCasts_S1x32x224x224_S32x224x224) shapeCasts_S32x224x224_S7168x224)
    a (constant S7168x112 .f32 0x00000000#32)

/-- An image's rows lie within the stack. -/
theorem slices (n : ℕ) (hn : n < 32) : S7168x112.Slices ![224 * n, 0] S224x112 := by
  refine ⟨rfl, fun k => ?_⟩
  fin_cases k
  · show 224 * n + 224 ≤ 7168
    omega
  · show 0 + 112 ≤ 112
    omega

/-- Image `n` blurred, as levels, in fourteen groups of eight rows. -/
def levels (x : Vec F S1x32x224x224 .f32) (a : Vec F S224x112 .f32) (n : ℕ) (hn : n < 32) : FVec F S14x8x112 .f32 :=
  shapeCast S14x8x112
    (floor (mulf
      (matmul dot_S224x112_S224x112_S112x112_0_0_1_1_n_n none a
        (extractStridedSlice S224x112 ![224 * n, 0] (stacked x a) (slices n hn)) (constant S112x112 .f32 0x00000000#32))
      (broadcast S112x112 (Scalar.ofBits .f32 0x41C80000#32))))
    shapeCasts_S112x112_S14x8x112

/-- The words of the caps one to twenty-four. -/
def cap : Fin 24 → BitVec 32 :=
  ![0x3F800000#32, 0x40000000#32, 0x40400000#32, 0x40800000#32, 0x40A00000#32, 0x40C00000#32, 0x40E00000#32, 0x41000000#32,
    0x41100000#32, 0x41200000#32, 0x41300000#32, 0x41400000#32, 0x41500000#32, 0x41600000#32, 0x41700000#32, 0x41800000#32,
    0x41880000#32, 0x41900000#32, 0x41980000#32, 0x41A00000#32, 0x41A80000#32, 0x41B00000#32, 0x41B80000#32, 0x41C00000#32]

/-- The capped sum of cap `k` over the first `n` images. -/
def capped (x : Vec F S1x32x224x224 .f32) (a : Vec F S224x112 .f32) (k : Fin 24) : (n : ℕ) → n ≤ 32 → FVec F S8x112 .f32
  | 0, _ => broadcast S8x112 (Scalar.ofBits .f32 0x00000000#32)
  | n + 1, hn => addf (capped x a k n (Nat.le_of_succ_le hn))
      (multiReduction .add [0] S8x112
        (minimumf (levels x a n hn) (broadcast S14x8x112 (Scalar.ofBits .f32 (cap k))))
        0x00000000#32 reduces_S14x8x112_S8x112 (.inl rfl) rfl)

/-- The twenty-four capped sums of a block, one below the other. -/
def tile (x : Vec F S1x32x224x224 .f32) (a : Vec F S224x112 .f32) : FVec F S192x112 .f32 :=
  concatenate S192x112 0 (List.ofFn fun k : Fin 24 => (⟨S8x112, capped x a k 32 le_rfl⟩ : (T : Shape) × Vec F T .f32))
    concatenates_S8x112_S8x112_S8x112_S8x112_S8x112_S8x112_S8x112_S8x112_S8x112_S8x112_S8x112_S8x112_S8x112_S8x112_S8x112_S8x112_S8x112_S8x112_S8x112_S8x112_S8x112_S8x112_S8x112_S8x112_S192x112_d0

/-- The row of a batch position lies within a scratch. -/
theorem rowIn (i : grid0.Coords) (a : Fin S4x192x112.rank) : k0_off1 i a + S1x192x112.size a ≤ S4x192x112.size a := by
  have h0 : (i 0).val < 4 := (i 0).isLt
  rw [k0_off1_eq i]
  fin_cases a
  · show (i 0).val + 1 ≤ 4
    omega
  · show 0 + 192 ≤ 192
    omega
  · show 0 + 112 ≤ 112
    omega

/-- The row of a scratch a grid point updates. -/
abbrev row (i : grid0.Coords) : Rect S4x192x112 := Rect.unit (k0_off1 i) S1x192x112.size (rowIn i)

/-- A block of images, whole. -/
abbrev wholeX : Rect S1x32x224x224 := Rect.unit ![0, 0, 0, 0] S1x32x224x224.size (by decide)

/-- The blur matrix, whole. -/
abbrev wholeA : Rect S224x112 := Rect.unit ![0, 0] S224x112.size (by decide)

/-- A grid point that is neither first nor last leaves, in the first scratch, its tile added to the row of its batch position. -/
theorem sout_B_0 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    sout0_B_0 c i arg2 harg2 arg3 harg3 arg4 harg4 arg5 harg5 arg6 harg6 arg7 harg7 hc0 hc1 x0 x1 x2 xs0 xs1
      = View.read (Elt F) arg6.view (arg6.view.writes (Elt F) (harg6.unread xs0)
          [⟨row i, k0_pay4 (View.readAt (Elt F) arg6.view (row i).toLoadRect (harg6.unread xs0))
              (tile (View.readAt (Elt F) arg2.view wholeX.toLoadRect (harg2.unread x0))
                (View.readAt (Elt F) arg4.view wholeA.toLoadRect (harg4.unread x2)))⟩]) := by
  unfold sout0_B_0
  unfold kernelRun0_B
  dsimp only
  sl_unfold_words
  sl_kernel_rfl

end Cert.Tile

end
-- ==== Proof.Tail.lean ====
/-
  What the last grid point computes from the two scratches: the histograms and the loss.
-/
module

public import proofs.«01_k».proof.Proof.Tile

@[expose] public section

set_option maxRecDepth 16384

noncomputable section

namespace Cert.Tail

open Idealize.ShloMosaic Idealize.ShloMosaic.TcCoe Idealize.SL.Sem
open Cert.KernelIdeal Cert.KernelIdeal.Gen

variable {F : FTy → Type} [FloatOps F] [Named F]

/-- Eight columns of the one hundred and ninety-two. -/
theorem slices8 (k : Fin 24) : S4x192.Slices ![0, 8 * k.val] S4x8 := by
  have := k.isLt
  refine ⟨rfl, fun a => ?_⟩
  fin_cases a
  · show 0 + 4 ≤ 4
    omega
  · show 8 * k.val + 8 ≤ 192
    omega

/-- A scratch as integers, its lanes added up. -/
def lanes (s : Vec F S4x192x112 .f32) : IVec S4x192 32 :=
  multiReductionI .add [2] S4x192 (fptosi 32 s) 0#32 reduces_S4x192x112_S4x192 rfl

/-- One group of eight columns added up. -/
def group (l : IVec S4x192 32) (k : Fin 24) : IVec S4x1 32 :=
  shapeCast S4x1 (multiReductionI .add [1] S4 (extractStridedSlice S4x8 ![0, 8 * k.val] l (slices8 k)) 0#32 reduces_S4x8_S4 rfl)
    shapeCasts_S4_S4x1

/-- The capped sums: the twenty-four groups side by side. -/
def groups (l : IVec S4x192 32) : IVec S4x24 32 :=
  concatenate S4x24 1 (List.ofFn fun k : Fin 24 => (⟨S4x1, group l k⟩ : (T : Shape) × (T.Idx → BitVec 32)))
    concatenates_S4x1_S4x1_S4x1_S4x1_S4x1_S4x1_S4x1_S4x1_S4x1_S4x1_S4x1_S4x1_S4x1_S4x1_S4x1_S4x1_S4x1_S4x1_S4x1_S4x1_S4x1_S4x1_S4x1_S4x1_S4x24_d1

/-- The capped sums' differences, between the number of pixels and zero. -/
def exten (s : IVec S4x24 32) : IVec S4x26 32 :=
  concatenate S4x26 1
    [⟨S4x1, broadcast S4x1 1204224#32⟩,
      ⟨S4x24, subi s (concatenate S4x24 1 [⟨S4x1, broadcast S4x1 0#32⟩, ⟨S4x23, extractStridedSlice S4x23 ![0, 0] s slices_S4x24_o0_0_S4x23⟩]
        concatenates_S4x1_S4x23_S4x24_d1)⟩,
      ⟨S4x1, broadcast S4x1 0#32⟩]
    concatenates_S4x1_S4x24_S4x1_S4x26_d1

/-- The histogram: the differences of neighbours. -/
def histo (s : IVec S4x24 32) : FVec F S4x25 .f32 :=
  sitofp .f32 (subi (extractStridedSlice S4x25 ![0, 0] (exten s) slices_S4x26_o0_0_S4x25)
    (extractStridedSlice S4x25 ![0, 1] (exten s) slices_S4x26_o0_1_S4x25))

/-- Some rows of a histogram added up and scaled. -/
def scaled {T : Shape} (x : FVec F T .f32) (axes : List (Fin T.rank)) (h : T.Reduces axes S25) : FVec F S25 .f32 :=
  mulf (multiReduction .add axes S25 x 0x00000000#32 h (.inl rfl) rfl) (broadcast S25 (Named.named κ "inv_shape" 0x37A72F05#32))

/-- The product of two rows, added up. -/
def inner (u v : FVec F S25 .f32) : F .f32 :=
  extractAt ![0, 0] (shapeCast S1x1 (multiReduction .add [1] S1 (shapeCast S1x25 (mulf u v) shapeCasts_S25_S1x25) 0x00000000#32
    reduces_S1x25_S1 (.inl rfl) rfl) shapeCasts_S1_S1x1) inpos_S1x1_p0_0

/-- The cosine of two rows. -/
def cosRow (u v : FVec F S25 .f32) : F .f32 :=
  Scalar.divf (inner u v)
    (Scalar.maximumf (Scalar.mulf (Scalar.sqrt (inner u u)) (Scalar.sqrt (inner v v))) (Scalar.ofBits .f32 0x358637BD#32))

/-- The cosine of the same rows of the two histograms. -/
def part {T : Shape} (x y : FVec F S4x25 .f32) (off : Fin 2 → ℕ) (hs : S4x25.Slices off T) (axes : List (Fin T.rank))
    (h : T.Reduces axes S25) : F .f32 :=
  cosRow (scaled (extractStridedSlice T off x hs) axes h) (scaled (extractStridedSlice T off y hs) axes h)

/-- One weighted cosine more. -/
def plus (t : F .f32) (w : BitVec 32) (v : F .f32) : F .f32 := Scalar.addf t (Scalar.mulf (Scalar.ofBits .f32 w) v)

/-- The loss of two histograms: the ten pairs. -/
def loss (x y : FVec F S4x25 .f32) : FVec F S1x1 .f32 :=
  let t := Scalar.ofBits .f32 0x00000000#32
  let t := plus t 0x3F800000#32 (part (T := S1x25) x y ![0, 0] slices_S4x25_o0_0_S1x25 [0] reduces_S1x25_S25)
  let t := plus t 0x3F800000#32 (part (T := S2x25) x y ![0, 0] slices_S4x25_o0_0_S2x25 [0] reduces_S2x25_S25)
  let t := plus t 0x3F800000#32 (part (T := S1x25) x y ![1, 0] slices_S4x25_o1_0_S1x25 [0] reduces_S1x25_S25)
  let t := plus t 0x3F800000#32 (part (T := S3x25) x y ![0, 0] slices_S4x25_o0_0_S3x25 [0] reduces_S3x25_S25)
  let t := plus t 0x3F800000#32 (part (T := S2x25) x y ![1, 0] slices_S4x25_o1_0_S2x25 [0] reduces_S2x25_S25)
  let t := plus t 0x3F800000#32 (part (T := S1x25) x y ![2, 0] slices_S4x25_o2_0_S1x25 [0] reduces_S1x25_S25)
  let t := plus t 0x42B80000#32 (cosRow (scaled x [0] reduces_S4x25_S25) (scaled y [0] reduces_S4x25_S25))
  let t := plus t 0x42B80000#32 (part (T := S3x25) x y ![1, 0] slices_S4x25_o1_0_S3x25 [0] reduces_S3x25_S25)
  let t := plus t 0x42B80000#32 (part (T := S2x25) x y ![2, 0] slices_S4x25_o2_0_S2x25 [0] reduces_S2x25_S25)
  let t := plus t 0x42B80000#32 (part (T := S1x25) x y ![3, 0] slices_S4x25_o3_0_S1x25 [0] reduces_S1x25_S25)
  broadcast S1x1 (Scalar.divf t (Scalar.ofBits .f32 0x43C00000#32))

/-- The histogram of a scratch. -/
def hist (s : Vec F S4x192x112 .f32) : FVec F S4x25 .f32 := histo (groups (lanes s))

/-- A scratch, whole. -/
abbrev wholeS : Rect S4x192x112 := Rect.unit ![0, 0, 0] S4x192x112.size (by decide)

/-- The result, whole. -/
abbrev wholeO : Rect S1x1 := Rect.unit ![0, 0] S1x1.size (by decide)

/-- The last grid point leaves the loss of the two updated scratches. -/
theorem out_C (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    out0_C_3 c i arg2 harg2 arg3 harg3 arg4 harg4 arg5 harg5 arg6 harg6 arg7 harg7 hc0 hc1 x0 x1 x2 xs0 xs1
      = View.read (Elt F) VO0_3 (VO0_3.writes (Elt F) VO0_3.junk
          [⟨wholeO, loss
            (hist (View.readAt (Elt F) arg6.view wholeS.toLoadRect (arg6.view.writes (Elt F) (harg6.unread xs0)
              [⟨Tile.row i, k0_pay4 (View.readAt (Elt F) arg6.view (Tile.row i).toLoadRect (harg6.unread xs0))
                (Tile.tile (View.readAt (Elt F) arg2.view Tile.wholeX.toLoadRect (harg2.unread x0))
                  (View.readAt (Elt F) arg4.view Tile.wholeA.toLoadRect (harg4.unread x2)))⟩])))
            (hist (View.readAt (Elt F) arg7.view wholeS.toLoadRect (arg7.view.writes (Elt F) (harg7.unread xs1)
              [⟨Tile.row i, k0_pay4 (View.readAt (Elt F) arg7.view (Tile.row i).toLoadRect (harg7.unread xs1))
                (Tile.tile (View.readAt (Elt F) arg3.view Tile.wholeX.toLoadRect (harg3.unread x1))
                  (View.readAt (Elt F) arg4.view Tile.wholeA.toLoadRect (harg4.unread x2)))⟩])))⟩]) := by
  unfold out0_C_3
  unfold kernelRun0_C
  dsimp only
  sl_unfold_words
  sl_kernel_rfl

end Cert.Tail

end
-- ==== Proof.Levels.lean ====
/-
  Counting with capped sums: how the sums of `min p (k+1)` over a finite family of levels give back the
  histogram of the levels, the last bin taking every level from 24 on. Plain natural numbers only.
-/
module

public import Idealize.ShloMosaic.PureOps.Ideal
public import Mathlib.Algebra.BigOperators.Fin
public import Mathlib.Data.Fintype.BigOperators
public import Mathlib.Tactic.Ring
public import Mathlib.Tactic.Linarith
public import Mathlib.Tactic.FieldSimp
public import Mathlib.Tactic.FinCases
public import Mathlib.Tactic.IntervalCases
public import Mathlib.Tactic.NormNum
public import Mathlib.Tactic.Positivity

@[expose] public section

namespace Cert.Levels

variable {ι : Type} [Fintype ι]

/-- The sum of the levels, each capped at `k`. -/
def capSum (p : ι → ℕ) (k : ℕ) : ℕ := ∑ i, min (p i) k

/-- How many levels are at least `k`. -/
def atLeast (p : ι → ℕ) (k : ℕ) : ℕ := ∑ i, if k ≤ p i then 1 else 0

/-- How many levels fall in bin `k`, every level from 24 on counted in bin 24. -/
def bin (p : ι → ℕ) (k : ℕ) : ℕ := ∑ i, if min (p i) 24 = k then 1 else 0

/-- Capping at zero leaves nothing. -/
theorem capSum_zero (p : ι → ℕ) : capSum p 0 = 0 := by simp [capSum]

/-- Raising the cap by one adds one for every level above the old cap. -/
theorem capSum_succ (p : ι → ℕ) (k : ℕ) : capSum p (k + 1) = capSum p k + atLeast p (k + 1) := by
  unfold capSum atLeast
  rw [← Finset.sum_add_distrib]
  refine Finset.sum_congr rfl fun i _ => ?_
  split_ifs <;> omega

/-- Every level is at least zero. -/
theorem atLeast_zero (p : ι → ℕ) : atLeast p 0 = Fintype.card ι := by simp [atLeast]

/-- Below the last bin, the levels at least `k` are those in bin `k` and those at least `k + 1`. -/
theorem atLeast_eq_bin_add (p : ι → ℕ) (k : ℕ) (hk : k < 24) :
    atLeast p k = bin p k + atLeast p (k + 1) := by
  unfold bin atLeast
  rw [← Finset.sum_add_distrib]
  refine Finset.sum_congr rfl fun i _ => ?_
  split_ifs <;> omega

/-- The last bin takes every level that is at least 24. -/
theorem atLeast_last (p : ι → ℕ) : atLeast p 24 = bin p 24 := by
  unfold bin atLeast
  refine Finset.sum_congr rfl fun i _ => ?_
  split_ifs <;> omega

/-- A bin holds at most every level. -/
theorem bin_le (p : ι → ℕ) (k : ℕ) : bin p k ≤ Fintype.card ι := by
  unfold bin
  calc _ ≤ ∑ _i : ι, 1 := Finset.sum_le_sum fun i _ => by split_ifs <;> omega
    _ = Fintype.card ι := by simp

/-- The row the kernel differences: the size of the family, the differences of consecutive capped sums, zero. -/
def ext (n : ℤ) (s : ℕ → ℤ) (k : ℕ) : ℤ :=
  if k = 0 then n else if k ≤ 24 then s k - s (k - 1) else 0

/-- Differencing that row once more gives the histogram. -/
theorem ext_sub (p : ι → ℕ) (k : ℕ) (hk : k < 25) :
    ext (Fintype.card ι) (fun k => (capSum p k : ℤ)) k - ext (Fintype.card ι) (fun k => (capSum p k : ℤ)) (k + 1)
      = bin p k := by
  have e : ∀ j, j ≤ 24 → ext (Fintype.card ι) (fun k => (capSum p k : ℤ)) j = atLeast p j := by
    intro j hj
    unfold ext
    rcases j with _ | j
    · simp [atLeast_zero]
    · have := capSum_succ p j
      simp only [Nat.add_eq_zero_iff, one_ne_zero, and_false, if_false, hj, if_true, Nat.add_sub_cancel]
      omega
  rcases Nat.lt_or_ge k 24 with h | h
  · rw [e k h.le, e (k + 1) h]
    have := atLeast_eq_bin_add p k h
    omega
  · obtain rfl : k = 24 := by omega
    rw [e 24 le_rfl]
    have := atLeast_last p
    simp only [ext]
    norm_num
    exact_mod_cast this

end Cert.Levels

end
-- ==== Proof.Blur.lean ====
/-
  The blur and pool by two, on real images: the weights of the reflected seven-tap window, and the fact that
  multiplying an image by the weight matrix on both sides gives the forty-nine term windowed sum.
-/
module

public import proofs.«01_k».proof.Proof.Levels

@[expose] public section

namespace Cert.Blur

/-- The row of the image that row `i` of the image padded by three reflected rows shows. -/
def refl (i : ℕ) : ℕ := if i < 3 then 3 - i else if i < 227 then i - 3 else 449 - i

/-- The seven taps, in sixty-fourths. -/
def tap : Fin 7 → ℕ := ![1, 6, 15, 20, 15, 6, 1]

/-- The weight of image row `p` in pooled row `j`, in sixty-fourths. -/
def wt (p j : ℕ) : ℕ :=
  (if refl (2 * j) = p then 1 else 0) + (if refl (2 * j + 1) = p then 6 else 0)
    + (if refl (2 * j + 2) = p then 15 else 0) + (if refl (2 * j + 3) = p then 20 else 0)
    + (if refl (2 * j + 4) = p then 15 else 0) + (if refl (2 * j + 5) = p then 6 else 0)
    + (if refl (2 * j + 6) = p then 1 else 0)

/-- The weight is the sum of the taps that land on the row. -/
theorem wt_eq (p j : ℕ) : wt p j = ∑ t : Fin 7, if refl (2 * j + t.val) = p then tap t else 0 := by
  simp [Fin.sum_univ_succ, tap, wt]
  ring

/-- A tap of a pooled row lands on a row of the image. -/
theorem refl_lt (j : ℕ) (hj : j < 112) (t : Fin 7) : refl (2 * j + t.val) < 224 := by
  have := t.isLt
  unfold refl
  split_ifs <;> omega

/-- The sum of an image column against the weights is the sum over the taps. -/
theorem sum_wt (f : ℕ → ℝ) (j : ℕ) (hj : j < 112) :
    ∑ p : Fin 224, ((wt p.val j : ℝ) / 64) * f p.val = ∑ t : Fin 7, ((tap t : ℝ) / 64) * f (refl (2 * j + t.val)) := by
  simp only [wt_eq, Nat.cast_sum, Finset.sum_div, Finset.sum_mul]
  rw [Finset.sum_comm]
  refine Finset.sum_congr rfl fun t _ => ?_
  rw [Finset.sum_eq_single (⟨refl (2 * j + t.val), refl_lt j hj t⟩ : Fin 224)]
  · simp
  · intro p _ hp
    have : refl (2 * j + t.val) ≠ p.val := fun h => hp (Fin.ext h.symm)
    simp [this]
  · intro h; exact absurd (Finset.mem_univ _) h

/-- The blurred, pooled image: forty-nine weighted pixels of the reflected image around each pooled one. -/
noncomputable def blur (X : ℕ → ℕ → ℝ) (h w : ℕ) : ℝ :=
  ∑ r : Fin 7, ∑ s : Fin 7, (((tap r : ℝ) / 64) * ((tap s : ℝ) / 64)) * X (refl (2 * h + r.val)) (refl (2 * w + s.val))

/-- Multiplying by the weight matrix on both sides is the blur. -/
theorem two_sided (X : ℕ → ℕ → ℝ) (h w : ℕ) (hh : h < 112) (hw : w < 112) :
    ∑ p : Fin 224, ((wt p.val h : ℝ) / 64) * (∑ q : Fin 224, X p.val q.val * ((wt q.val w : ℝ) / 64)) = blur X h w := by
  rw [sum_wt (fun p => ∑ q : Fin 224, X p q.val * ((wt q.val w : ℝ) / 64)) h hh]
  unfold blur
  refine Finset.sum_congr rfl fun r _ => ?_
  have := sum_wt (fun q => X (refl (2 * h + r.val)) q) w hw
  simp only [mul_comm _ ((wt _ w : ℝ) / 64), this]
  rw [Finset.mul_sum]
  refine Finset.sum_congr rfl fun s _ => by ring

/-- The seven taps add up to sixty-four. -/
theorem sum_tap : ∑ t : Fin 7, ((tap t : ℝ) / 64) = 1 := by
  simp [Fin.sum_univ_succ, tap]; norm_num

/-- A blurred image of pixels in the unit interval is not negative. -/
theorem blur_nonneg (X : ℕ → ℕ → ℝ) (hX : ∀ p q, 0 ≤ X p q) (h w : ℕ) : 0 ≤ blur X h w := by
  unfold blur
  exact Finset.sum_nonneg fun r _ => Finset.sum_nonneg fun s _ => mul_nonneg (by positivity) (hX _ _)

/-- A blurred image of pixels in the unit interval does not exceed one. -/
theorem blur_le_one (X : ℕ → ℕ → ℝ) (hX : ∀ p q, X p q ≤ 1) (h w : ℕ) : blur X h w ≤ 1 := by
  have e : (1 : ℝ) = ∑ r : Fin 7, ∑ s : Fin 7, ((tap r : ℝ) / 64) * ((tap s : ℝ) / 64) := by
    rw [← Finset.sum_mul_sum, sum_tap, one_mul]
  rw [e]
  unfold blur
  refine Finset.sum_le_sum fun r _ => Finset.sum_le_sum fun s _ => ?_
  exact mul_le_of_le_one_right (by positivity) (hX _ _)

/-- The level of a pooled pixel: twenty-five times its value, rounded down. -/
noncomputable def level (X : ℕ → ℕ → ℝ) (h w : ℕ) : ℕ := ⌊blur X h w * 25⌋₊

/-- Levels run from 0 to 25. -/
theorem level_le (X : ℕ → ℕ → ℝ) (hX : ∀ p q, X p q ≤ 1) (h w : ℕ) : level X h w ≤ 25 := by
  have := blur_le_one X hX h w
  unfold level
  have h25 : ((25 : ℕ) : ℝ) = 25 := by norm_num
  exact Nat.floor_le_of_le (by rw [h25]; linarith)

/-- The whole-number floor of the scaled pixel is its level. -/
theorem floor_eq_level (X : ℕ → ℕ → ℝ) (hX : ∀ p q, 0 ≤ X p q) (h w : ℕ) : ⌊blur X h w * 25⌋ = (level X h w : ℤ) := by
  have := blur_nonneg X hX h w
  unfold level
  exact (Int.natCast_floor_eq_floor (by linarith)).symm

end Cert.Blur

end
-- ==== Proof.Loss.lean ====
/-
  The loss over cumulative histograms: the kernel's weighted sum over the ten pairs of batch positions is the
  reference's sum over every batch position and channel, divided alike.
-/
module

public import proofs.«01_k».proof.Proof.Levels
public import Idealize.ShloMosaic.PureOps.Ideal.Laws

@[expose] public section

namespace Cert.Loss

open Idealize.ShloMosaic

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cosine of two rows of bins, its denominator kept from below by `eps`. -/
noncomputable def cosine (eps : ℝ) (u v : Fin 25 → ℝ) : ℝ :=
  (∑ k, u k * v k) / max (Real.sqrt (∑ k, u k * u k) * Real.sqrt (∑ k, v k * v k)) eps

/-- The bins of batch positions `b` to `e`, added up and divided by the size of a picture. -/
noncomputable def seg (H : ℕ → Fin 25 → ℝ) (b e : ℕ) : Fin 25 → ℝ := fun k => (∑ i ∈ Finset.Ico b e, H i k) * (1 / 50176)

/-- What one pair of batch positions contributes. -/
noncomputable def pair (eps : ℝ) (H G : ℕ → Fin 25 → ℝ) (b e : ℕ) : ℝ := cosine eps (seg H b e) (seg G b e)

/-- The ten pairs in the kernel's order, the last four weighing ninety-two. -/
noncomputable def total (c : ℕ → ℕ → ℝ) : ℝ :=
  c 0 1 + c 0 2 + c 1 2 + c 0 3 + c 1 3 + c 2 3 + 92 * c 0 4 + 92 * c 1 4 + 92 * c 2 4 + 92 * c 3 4

/-- The cosine of two empty rows is zero. -/
theorem cosine_zero (eps : ℝ) : cosine eps (fun _ => 0) (fun _ => 0) = 0 := by simp [cosine]

/-- Every channel from the fourth on takes all four batch positions: the sum over positions and channels is the
    weighted sum over the ten pairs. -/
theorem sum_eq_total (c : ℕ → ℕ → ℝ) :
    ∑ b : Fin 4, ∑ j : Fin 96, (if b.val < min j.val 4 then c b.val (min j.val 4) else 0) = total c := by
  have h : ∀ b : ℕ, b < 4 → ∑ j : Fin 96, (if b < min j.val 4 then c b (min j.val 4) else 0)
      = (if b < 1 then c b 1 else 0) + (if b < 2 then c b 2 else 0) + (if b < 3 then c b 3 else 0) + 92 * c b 4 := by
    intro b hb
    rw [Fin.sum_univ_eq_sum_range (fun j => if b < min j 4 then c b (min j 4) else 0) 96,
      show (96 : ℕ) = 4 + 92 from rfl, Finset.sum_range_add]
    have e : ∀ j ∈ Finset.range 92, (if b < min (4 + j) 4 then c b (min (4 + j) 4) else 0) = c b 4 := by
      intro j _
      rw [show min (4 + j) 4 = 4 by omega, if_pos hb]
    rw [Finset.sum_congr rfl e]
    simp [Finset.sum_range_succ, hb]
  rw [Fin.sum_univ_four]
  simp only [Fin.val_zero, Fin.val_one, Fin.val_two, show ((3 : Fin 4) : ℕ) = 3 from rfl]
  rw [h 0 (by omega), h 1 (by omega), h 2 (by omega), h 3 (by omega)]
  norm_num [total]
  ring

/-- The square root of a sum of squares among the extended reals. -/
theorem sqrt_sum (u : Fin 25 → ℝ) :
    Ideal.sqrt ((∑ k, u k * u k : ℝ) : EReal) = ((Real.sqrt (∑ k, u k * u k) : ℝ) : EReal) := by
  rw [Ideal.sqrt_coe, if_neg]
  exact not_lt.2 (Finset.sum_nonneg fun k _ => mul_self_nonneg _)

/-- Division by a nonzero real is real division. -/
theorem div_real (x y : ℝ) (hy : y ≠ 0) : Ideal.div (x : EReal) (y : EReal) = ((x / y : ℝ) : EReal) := by
  rw [Ideal.div_coe hy, ← EReal.coe_mul]
  congr 1
  ring

/-- The larger of two reals is the same among the extended reals. -/
theorem coe_max (x y : ℝ) : max (x : EReal) (y : EReal) = ((max x y : ℝ) : EReal) :=
  (EReal.coe_strictMono.monotone.map_max).symm

/-- The smaller of two reals is the same among the extended reals. -/
theorem coe_min (x y : ℝ) : min (x : EReal) (y : EReal) = ((min x y : ℝ) : EReal) :=
  (EReal.coe_strictMono.monotone.map_min).symm

/-- The printed cosine over real rows is the real cosine. -/
theorem cosine_ereal (eps : ℝ) (he : 0 < eps) (u v : Fin 25 → ℝ) :
    Ideal.div (∑ k, (u k : EReal) * (v k : EReal))
      (max (Ideal.sqrt (∑ k, (u k : EReal) * (u k : EReal)) * Ideal.sqrt (∑ k, (v k : EReal) * (v k : EReal))) (eps : EReal))
      = ((cosine eps u v : ℝ) : EReal) := by
  simp only [← EReal.coe_mul, ← coe_sum]
  rw [sqrt_sum, sqrt_sum, ← EReal.coe_mul, coe_max, div_real]
  · rfl
  · exact (lt_of_lt_of_le he (le_max_right _ _)).ne'

end Cert.Loss

end
-- ==== Proof.TileVal.lean ====
/-
  A tile over the reals: on blocks of images with entries between zero and one, the capped sums count levels.
-/
module

public import proofs.«01_k».proof.Proof.Tail
public import proofs.«01_k».proof.Proof.Blur
public import proofs.«01_k».proof.Proof.Loss
public import Idealize.ShloMosaic.Lib.ValueIdx

@[expose] public section

set_option maxRecDepth 16384

noncomputable section

namespace Cert.TileVal

open Idealize.ShloMosaic Idealize.ShloMosaic.ValueIdx
open Cert.KernelIdeal Cert.KernelIdeal.Gen Cert.Tile

/-- A block of images with real entries. -/
def Block (x : Vec Ideal S1x32x224x224 .f32) (X : ℕ → ℕ → ℕ → ℝ) : Prop :=
  ∀ (n : Fin 32) (p q : Fin 224), x (ix4 0 n p q) = (X n p q : EReal)

/-- The blur matrix's entries. -/
def Weights (a : Vec Ideal S224x112 .f32) : Prop :=
  ∀ (p : Fin 224) (j : Fin 112), a (ix2 p j) = (((Blur.wt p j : ℝ) / 64 : ℝ) : EReal)

/-- A row of an image times the blur matrix. -/
theorem stacked_apply (x : Vec Ideal S1x32x224x224 .f32) (a : Vec Ideal S224x112 .f32) (X : ℕ → ℕ → ℕ → ℝ)
    (hx : Block x X) (ha : Weights a) (n : Fin 32) (p : Fin 224) (l : Fin 112) (i : Fin 7168) (hi : i.val = 224 * n.val + p.val) :
    stacked x a (ix2 i l) = ((∑ q : Fin 224, X n p q * ((Blur.wt q l : ℝ) / 64) : ℝ) : EReal) := by
  unfold stacked
  refine (Ideal.matmul_constant_zero_apply _ _ _ _ _).trans ?_
  rw [← Equiv.sum_comp (contrEquiv1 dot_S7168x224_S224x112_S7168x112_1_0_0_1_n_n 224 rfl rfl).symm, Loss.coe_sum]
  refine Finset.sum_congr rfl fun q _ => ?_
  have hl : dot_S7168x224_S224x112_S7168x112_1_0_0_1_n_n.lhsIdx (ix2 i l)
      ((contrEquiv1 dot_S7168x224_S224x112_S7168x112_1_0_0_1_n_n 224 rfl rfl).symm q) = ix2 i q := by
    funext d; fin_cases d <;> rfl
  have hr : dot_S7168x224_S224x112_S7168x112_1_0_0_1_n_n.rhsIdx (ix2 i l)
      ((contrEquiv1 dot_S7168x224_S224x112_S7168x112_1_0_0_1_n_n 224 rfl rfl).symm q) = ix2 q l := by
    funext d; fin_cases d <;> rfl
  rw [hl, hr, ha, EReal.coe_mul]
  congr 1
  rw [shapeCast_apply _ _ (ix2 i q) (ix3 n p q : S32x224x224.Idx) (by
      rw [Shape.rowMajor_val_three, Shape.rowMajor_val_two]
      simp [ix2, ix3, hi]; omega),
    shapeCast_apply _ _ (ix3 n p q) (ix4 0 n p q : S1x32x224x224.Idx) (by
      rw [Shape.rowMajor_val_three, Shape.rowMajor_val_four]
      simp [ix3, ix4]), hx]

/-- The word of twenty-five. -/
theorem word_25 : Ideal.ofBits .f32 0x41C80000#32 = ((25 : ℝ) : EReal) := by
  simp [Ideal.ofBits, Ideal.ieee]
  rw [← EReal.coe_mul]
  norm_num

/-- Image `n` of a block, as levels. -/
theorem levels_apply (x : Vec Ideal S1x32x224x224 .f32) (a : Vec Ideal S224x112 .f32) (X : ℕ → ℕ → ℕ → ℝ)
    (hx : Block x X) (hX : ∀ n p q, 0 ≤ X n p q) (ha : Weights a) (n : ℕ) (hn : n < 32) (g : Fin 14) (r : Fin 8) (l : Fin 112) :
    Tile.levels x a n hn (ix3 g r l) = (((Blur.level (X n) (8 * g + r) l : ℕ) : ℝ) : EReal) := by
  have hh : 8 * g.val + r.val < 112 := by omega
  unfold Tile.levels
  rw [shapeCast_apply _ _ (ix3 g r l) (ix2 ⟨8 * g + r, hh⟩ l : S112x112.Idx) (by
      rw [Shape.rowMajor_val_three, Shape.rowMajor_val_two]
      simp [ix2, ix3]; omega)]
  show FloatOps.floor (FloatOps.mulf _ (FloatOps.ofBits .f32 0x41C80000#32)) = _
  have e : matmul (φ₁ := .f32) (φ₂ := .f32) dot_S224x112_S224x112_S112x112_0_0_1_1_n_n none a
      (extractStridedSlice S224x112 ![224 * n, 0] (stacked x a) (slices n hn)) (constant S112x112 .f32 0x00000000#32)
      (ix2 ⟨8 * g + r, hh⟩ l) = ((Blur.blur (X n) (8 * g + r) l : ℝ) : EReal) := by
    refine (Ideal.matmul_constant_zero_apply _ _ _ _ _).trans ?_
    rw [← Equiv.sum_comp (contrEquiv1 dot_S224x112_S224x112_S112x112_0_0_1_1_n_n 224 rfl rfl).symm,
      ← Blur.two_sided (X n) _ _ hh l.isLt, Loss.coe_sum]
    refine Finset.sum_congr rfl fun p _ => ?_
    have hl : dot_S224x112_S224x112_S112x112_0_0_1_1_n_n.lhsIdx (ix2 ⟨8 * g + r, hh⟩ l)
        ((contrEquiv1 dot_S224x112_S224x112_S112x112_0_0_1_1_n_n 224 rfl rfl).symm p) = ix2 p ⟨8 * g + r, hh⟩ := by
      funext d; fin_cases d <;> rfl
    have hr : dot_S224x112_S224x112_S112x112_0_0_1_1_n_n.rhsIdx (ix2 ⟨8 * g + r, hh⟩ l)
        ((contrEquiv1 dot_S224x112_S224x112_S112x112_0_0_1_1_n_n 224 rfl rfl).symm p) = ix2 p l := by
      funext d; fin_cases d <;> rfl
    rw [hl, hr, ha, EReal.coe_mul]
    congr 1
    rw [extractStridedSlice_apply _ _ _ (ix2 p l) (ix2 ⟨224 * n + p, by omega⟩ l : S7168x112.Idx) (by
      intro d; fin_cases d
      · rfl
      · simp [ix2])]
    exact stacked_apply x a X hx ha ⟨n, hn⟩ p l _ rfl
  refine (congrArg (fun v => FloatOps.floor (FloatOps.mulf v (FloatOps.ofBits .f32 0x41C80000#32))) e).trans ?_
  rw [Ideal.floor_def, Ideal.mulf_def, Ideal.ofBits_def, word_25, ← EReal.coe_mul, Ideal.liftRound_coe,
    Blur.floor_eq_level (X n) (hX n)]
  simp

/-- The caps run from one to twenty-four. -/
theorem cap_value (k : Fin 24) : Ideal.ofBits .f32 (cap k) = (((k.val + 1 : ℕ) : ℝ) : EReal) := by
  fin_cases k <;> simp [Ideal.ofBits, Ideal.ieee, cap] <;> rw [← EReal.coe_mul] <;> norm_num

/-- The capped sums of the first `n` images of a block. -/
theorem capped_apply (x : Vec Ideal S1x32x224x224 .f32) (a : Vec Ideal S224x112 .f32) (X : ℕ → ℕ → ℕ → ℝ)
    (hx : Block x X) (hX : ∀ n p q, 0 ≤ X n p q) (ha : Weights a) (k : Fin 24) (r : Fin 8) (l : Fin 112) :
    ∀ (n : ℕ) (hn : n ≤ 32), capped x a k n hn (ix2 r l)
      = (((∑ i ∈ Finset.range n, ∑ g : Fin 14, min (Blur.level (X i) (8 * g + r) l) (k.val + 1) : ℕ) : ℝ) : EReal)
  | 0, _ => by
      show FloatOps.ofBits .f32 0x00000000#32 = _
      rw [Ideal.ofBits_def, Ideal.ofBits_zero_f32]
      simp
  | n + 1, hn => by
      unfold capped
      rw [addf_apply, capped_apply x a X hx hX ha k r l n (Nat.le_of_succ_le hn),
        Finset.sum_range_succ, Nat.cast_add, EReal.coe_add, Nat.cast_sum (Finset.univ : Finset (Fin 14)), Loss.coe_sum]
      congr 1
      refine (Ideal.multiReduction_add_single _ _ _ _ _ _).trans ?_
      refine Finset.sum_congr rfl fun g _ => ?_
      have hl : reduces_S14x8x112_S8x112.lift (ix2 r l : S8x112.Idx) g = (ix3 g r l : S14x8x112.Idx) := by
        funext d; fin_cases d <;> rfl
      rw [hl, minimumf_apply, levels_apply x a X hx hX ha n hn g r l]
      show min _ (Ideal.ofBits .f32 (cap k)) = _
      rw [cap_value, Loss.coe_min, Nat.cast_min]

/-- The capped sums of a block. -/
theorem tile_apply (x : Vec Ideal S1x32x224x224 .f32) (a : Vec Ideal S224x112 .f32) (X : ℕ → ℕ → ℕ → ℝ)
    (hx : Block x X) (hX : ∀ n p q, 0 ≤ X n p q) (ha : Weights a) (k : Fin 24) (r : Fin 8) (l : Fin 112) (j : Fin 192)
    (hj : j.val = 8 * k.val + r.val) :
    tile x a (ix2 j l)
      = (((∑ i ∈ Finset.range 32, ∑ g : Fin 14, min (Blur.level (X i) (8 * g + r) l) (k.val + 1) : ℕ) : ℝ) : EReal) := by
  unfold tile
  refine (concatenate_ofFn_apply (s₁ := S8x112) (t := S192x112) 0 (fun k : Fin 24 => capped x a k 32 le_rfl) _ rfl 8 rfl (ix2 j l) k
    (by simp [ix2, hj]; omega) (ix2 r l) (by simp [ix2, hj]; omega) (by
      intro b hb; fin_cases b
      · exact absurd rfl hb
      · rfl)).trans ?_
  exact capped_apply x a X hx hX ha k r l 32 le_rfl

end Cert.TileVal

end
-- ==== Proof.Table.lean ====
/-
  The blur matrix of the kernel, as printed, entry by entry.
-/
module

public import proofs.«01_k».proof.KernelIdeal
public import proofs.«01_k».proof.Proof.Blur
public import Idealize.ShloMosaic.PureOps.Ideal.Laws

@[expose] public section

namespace Cert.Table

open Idealize.ShloMosaic

/-- The f32 word of `n` sixty-fourths, for the ten values of `n` the blur matrix holds. -/
def wordOf : ℕ → BitVec 32
  | 0 => 0x00000000#32
  | 1 => 0x3C800000#32
  | 2 => 0x3D000000#32
  | 6 => 0x3DC00000#32
  | 12 => 0x3E400000#32
  | 15 => 0x3E700000#32
  | 16 => 0x3E800000#32
  | 20 => 0x3EA00000#32
  | 26 => 0x3ED00000#32
  | 30 => 0x3EF00000#32
  | _ => 0xFFFFFFFF#32

/-- The blur matrix's table, entry by entry: row `p`, column `j` is the word of the weight of `p` at `j`. -/
theorem table : ∀ p : Fin 224, ∀ j : Fin 112, Cert.KernelIdeal.lit0t (112 * p.val + j.val) = wordOf (Blur.wt p j) := by
  decide +kernel

end Cert.Table

end
-- ==== Proof.Named.lean ====
/-
  Every weight of the blur is one of the ten values whose words are named.
-/
module

public import proofs.«01_k».proof.Proof.Table

@[expose] public section

namespace Cert.Table

/-- Every weight has a named word. -/
theorem named : ∀ p : Fin 224, ∀ j : Fin 112, wordOf (Blur.wt p j) ≠ 0xFFFFFFFF#32 := by
  decide +kernel

end Cert.Table

end
-- ==== Proof.Inputs.lean ====
/-
  What the blocks of a grid point hold: thirty-two images of one batch position, and the blur matrix.
-/
module

public import proofs.«01_k».proof.Proof.TileVal
public import proofs.«01_k».proof.Proof.Named

@[expose] public section

set_option maxRecDepth 16384

noncomputable section

namespace Cert.Inputs

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The word of a number of sixty-fourths. -/
theorem word_value (n : ℕ) (h : Table.wordOf n ≠ 0xFFFFFFFF#32) :
    Ideal.ofBits .f32 (Table.wordOf n) = (((n : ℝ) / 64 : ℝ) : EReal) := by
  unfold Table.wordOf at h ⊢
  split at h
  all_goals first
    | exact absurd rfl h
    | (simp [Ideal.ofBits, Ideal.ieee]; done)
    | (simp [Ideal.ofBits, Ideal.ieee]; rw [← EReal.coe_mul]; norm_num)

/-- Where the windows of the two image arrays sit. -/
theorem index_images : ∀ t : Fin cfg0.N, win0_0.index t = ![t.val / 3, t.val % 3, 0, 0] ∧ win0_1.index t = ![t.val / 3, t.val % 3, 0, 0] :=
  (by decide +kernel : ∀ t : Fin grid0.N, _)

/-- A grid point's batch position. -/
theorem coords_0 : ∀ t : Fin cfg0.N, (grid0.coords t 0).val = t.val / 3 :=
  (by decide +kernel : ∀ t : Fin grid0.N, _)

/-- Where the window of the blur matrix sits. -/
theorem index_matrix : ∀ t : Fin cfg0.N, win0_2.index t = ![0, 0] :=
  (by decide +kernel : ∀ t : Fin grid0.N, _)

/-- An image of the first array's block. -/
theorem block_0 (c : Dev nD) (t : Fin cfg0.N) (n : Fin 32) (p q : Fin 224) (b : Fin 4) (hb : b.val = t.val / 3)
    (d : Fin 96) (hd : d.val = 32 * (t.val % 3) + n.val) :
    iblk m c 0 t (ix4 0 n p q) = m ((c : Thread nD τ).loc main_arg0) (ix4 b d p q) := by
  show V m c main_arg0 (((cfg0.win 0).blk t).view.emb (ix4 0 n p q)) = _
  rw [V_main_arg0]
  congr 1
  have e := (index_images t).1
  funext a
  apply Fin.ext
  fin_cases a
  · show win0_0.index t 0 * 1 + 1 * 0 = b.val
    simp [e, hb]
  · show win0_0.index t 1 * 32 + 1 * n.val = d.val
    simp [e, hd]; omega
  · show win0_0.index t 2 * 224 + 1 * p.val = p.val
    simp [e]
  · show win0_0.index t 3 * 224 + 1 * q.val = q.val
    simp [e]

/-- An image of the second array's block. -/
theorem block_1 (c : Dev nD) (t : Fin cfg0.N) (n : Fin 32) (p q : Fin 224) (b : Fin 4) (hb : b.val = t.val / 3)
    (d : Fin 96) (hd : d.val = 32 * (t.val % 3) + n.val) :
    iblk m c 1 t (ix4 0 n p q) = m ((c : Thread nD τ).loc main_arg1) (ix4 b d p q) := by
  show V m c main_arg1 (((cfg0.win 1).blk t).view.emb (ix4 0 n p q)) = _
  rw [V_main_arg1]
  congr 1
  have e := (index_images t).2
  funext a
  apply Fin.ext
  fin_cases a
  · show win0_1.index t 0 * 1 + 1 * 0 = b.val
    simp [e, hb]
  · show win0_1.index t 1 * 32 + 1 * n.val = d.val
    simp [e, hd]; omega
  · show win0_1.index t 2 * 224 + 1 * p.val = p.val
    simp [e]
  · show win0_1.index t 3 * 224 + 1 * q.val = q.val
    simp [e]

/-- The constant table as the region finds it. -/
theorem V_main_cst (c : Dev nD) (i : S224x112.Idx) :
    V m c main_cst i = Ideal.ofBits .f32 (Cert.KernelIdeal.lit0 (S224x112.rowMajor i)) := by
  have e : V m c main_cst = (fun i : S224x112.Idx => Ideal.ofBits .f32 (Cert.KernelIdeal.lit0 (S224x112.rowMajor i))) := by
    simp only [V, hostOps0, StableHlo.after_cons, StableHlo.after_nil]
    exact StableHlo.nullary_result' _ _ _
  exact congrFun e i

/-- The blur matrix's block holds the weights. -/
theorem block_2 (c : Dev nD) (t : Fin cfg0.N) : TileVal.Weights (iblk m c 2 t) := by
  intro p j
  show V m c main_cst (((cfg0.win 2).blk t).view.emb (ix2 p j)) = _
  have e := index_matrix t
  have hi : ((cfg0.win 2).blk t).view.emb (ix2 p j) = (ix2 p j : S224x112.Idx) := by
    funext a
    apply Fin.ext
    fin_cases a
    · show win0_2.index t 0 * 224 + 1 * p.val = p.val
      simp [e]
    · show win0_2.index t 1 * 112 + 1 * j.val = j.val
      simp [e]
  rw [hi, V_main_cst]
  have hr : Cert.KernelIdeal.lit0 (S224x112.rowMajor (ix2 p j)) = Table.wordOf (Blur.wt p j) := by
    rw [← Table.table p j]
    show Cert.KernelIdeal.lit0t (S224x112.rowMajor (ix2 p j)).val = _
    rw [Shape.rowMajor_val_two]
    congr 1
    simp [ix2]; omega
  rw [hr, word_value _ (Table.named p j)]

end Cert.Inputs

end
-- ==== Proof.Sweep.lean ====
/-
  What a grid point leaves in the two scratches and in the result, as functions of its blocks and of the scratches before.
-/
module

public import proofs.«01_k».proof.Proof.Tail
public import Idealize.ShloMosaic.Lib.VecWindow

@[expose] public section

set_option maxRecDepth 16384

noncomputable section

namespace Cert.Sweep

open Idealize.ShloMosaic Idealize.ShloMosaic.TcCoe Idealize.SL.Sem
open Cert.KernelIdeal Cert.KernelIdeal.Gen

variable {F : FTy → Type} [FloatOps F] [Named F]

/-- A scratch with a tile added to the row of the grid point's batch position. -/
def upd (i : grid0.Coords) (xs : Vec F S4x192x112 .f32) (t : FVec F S192x112 .f32) : Vec F S4x192x112 .f32 :=
  VecWindow.put xs (k0_off1 i) S1x192x112.size (k0_pay4 (View.ld xs (Tile.row i)) t)

/-- Reading back a buffer with the updated row written. -/
theorem read_row (v : View sig .tc .vmem S4x192x112 .f32) (i : grid0.Coords) (f : v.ty.Contents (Elt F))
    (L : List (View.Piece (Elt F) S4x192x112 .f32)) (t : FVec F S192x112 .f32) (xs : Vec F S4x192x112 .f32)
    (h : View.read (Elt F) v (v.writes (Elt F) f L) = xs) (w : Vec F S1x192x112 .f32) (hw : w = View.ld xs (Tile.row i)) :
    View.read (Elt F) v (v.writes (Elt F) f (⟨Tile.row i, k0_pay4 w t⟩ :: L)) = upd i xs t := by
  subst hw
  rw [View.read_writes_cons_put (off' := k0_off1 i) v f (Tile.rowIn i) _ L rfl, h]
  rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- A whole block of images, loaded. -/
theorem ld_x (v : Memref sig .tc .vmem S1x32x224x224 .f32) (h : v.IsWhole) (x : Vec F S1x32x224x224 .f32) :
    View.readAt (Elt F) v.view Tile.wholeX.toLoadRect (h.unread x) = x := by
  simp only [View.readAt_eq_ld, h.read_unread, View.ld_unit_zero (S := S1x32x224x224) hz4]

/-- The blur matrix, loaded. -/
theorem ld_a (v : Memref sig .tc .vmem S224x112 .f32) (h : v.IsWhole) (x : Vec F S224x112 .f32) :
    View.readAt (Elt F) v.view Tile.wholeA.toLoadRect (h.unread x) = x := by
  simp only [View.readAt_eq_ld, h.read_unread, View.ld_unit_zero (S := S224x112) hz2]

/-- The updated row of a scratch, with the tile of a loaded block. -/
theorem read_upd (v : Memref sig .tc .vmem S4x192x112 .f32) (hv : v.IsWhole) (i : grid0.Coords)
    (b : Memref sig .tc .vmem S1x32x224x224 .f32) (hb : b.IsWhole) (a : Memref sig .tc .vmem S224x112 .f32) (ha : a.IsWhole)
    (x : Vec F S1x32x224x224 .f32) (w : Vec F S224x112 .f32) (xs : Vec F S4x192x112 .f32) :
    View.read (Elt F) v.view (v.view.writes (Elt F) (hv.unread xs)
        [⟨Tile.row i, k0_pay4 (View.readAt (Elt F) v.view (Tile.row i).toLoadRect (hv.unread xs))
          (Tile.tile (View.readAt (Elt F) b.view Tile.wholeX.toLoadRect (hb.unread x))
            (View.readAt (Elt F) a.view Tile.wholeA.toLoadRect (ha.unread w)))⟩]) = upd i xs (Tile.tile x w) := by
  rw [ld_x, ld_a]
  refine read_row _ i _ [] _ xs ?_ _ ?_
  · rw [View.writes_nil, hv.read_unread]
  · rw [View.readAt_eq_ld, hv.read_unread]

/-- The same of a scratch just filled. -/
theorem read_upd_fresh (s : View sig .tc .vmem S4x192x112 .f32) (v : Memref sig .tc .vmem S4x192x112 .f32) (i : grid0.Coords)
    (b : Memref sig .tc .vmem S1x32x224x224 .f32) (hb : b.IsWhole) (a : Memref sig .tc .vmem S224x112 .f32) (ha : a.IsWhole)
    (x : Vec F S1x32x224x224 .f32) (w : Vec F S224x112 .f32) (xs : Vec F S4x192x112 .f32) (f : s.ty.Contents (Elt F)) (g : v.view.ty.Contents (Elt F)) :
    View.read (Elt F) s (s.writes (Elt F) f
        [⟨Tile.row i, k0_pay4 (View.readAt (Elt F) v.view (Tile.row i).toLoadRect (v.view.writes (Elt F) g [⟨Tail.wholeS, xs⟩]))
          (Tile.tile (View.readAt (Elt F) b.view Tile.wholeX.toLoadRect (hb.unread x))
            (View.readAt (Elt F) a.view Tile.wholeA.toLoadRect (ha.unread w)))⟩, ⟨Tail.wholeS, xs⟩]) = upd i xs (Tile.tile x w) := by
  rw [ld_x, ld_a]
  have full : ∀ (u : View sig .tc .vmem S4x192x112 .f32) (h : u.ty.Contents (Elt F)),
      View.read (Elt F) u (u.writes (Elt F) h [⟨Tail.wholeS, xs⟩]) = xs := fun u h =>
    View.read_writes_full u h _ xs []
  refine read_row s i _ _ _ xs (full s f) _ ?_
  rw [View.readAt_eq_ld, full]

/-- A grid point that is neither first nor last: the first scratch. -/
theorem sout_B_0 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    sout0_B_0 c i arg2 harg2 arg3 harg3 arg4 harg4 arg5 harg5 arg6 harg6 arg7 harg7 hc0 hc1 x0 x1 x2 xs0 xs1
      = upd i xs0 (Tile.tile x0 x2) := by
  refine Eq.trans ?_ (read_upd arg6 harg6 i arg2 harg2 arg4 harg4 x0 x2 xs0)
  unfold sout0_B_0
  unfold kernelRun0_B
  dsimp only
  sl_unfold_words
  sl_kernel_rfl

/-- A grid point that is neither first nor last: the second scratch. -/
theorem sout_B_1 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    sout0_B_1 c i arg2 harg2 arg3 harg3 arg4 harg4 arg5 harg5 arg6 harg6 arg7 harg7 hc0 hc1 x0 x1 x2 xs0 xs1
      = upd i xs1 (Tile.tile x1 x2) := by
  refine Eq.trans ?_ (read_upd arg7 harg7 i arg3 harg3 arg4 harg4 x1 x2 xs1)
  unfold sout0_B_1
  unfold kernelRun0_B
  dsimp only
  sl_unfold_words
  sl_kernel_rfl

/-- The last grid point: the first scratch. -/
theorem sout_C_0 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    sout0_C_0 c i arg2 harg2 arg3 harg3 arg4 harg4 arg5 harg5 arg6 harg6 arg7 harg7 hc0 hc1 x0 x1 x2 xs0 xs1
      = upd i xs0 (Tile.tile x0 x2) := by
  refine Eq.trans ?_ (read_upd arg6 harg6 i arg2 harg2 arg4 harg4 x0 x2 xs0)
  unfold sout0_C_0
  unfold kernelRun0_C
  dsimp only
  sl_unfold_words
  sl_kernel_rfl

/-- The last grid point: the second scratch. -/
theorem sout_C_1 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    sout0_C_1 c i arg2 harg2 arg3 harg3 arg4 harg4 arg5 harg5 arg6 harg6 arg7 harg7 hc0 hc1 x0 x1 x2 xs0 xs1
      = upd i xs1 (Tile.tile x1 x2) := by
  refine Eq.trans ?_ (read_upd arg7 harg7 i arg3 harg3 arg4 harg4 x1 x2 xs1)
  unfold sout0_C_1
  unfold kernelRun0_C
  dsimp only
  sl_unfold_words
  sl_kernel_rfl

/-- The first grid point: the first scratch. -/
theorem sout_A_0 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) :
    sout0_A_0 c i arg2 harg2 arg3 harg3 arg4 harg4 arg5 harg5 arg6 harg6 arg7 harg7 hc0 hc1 x0 x1 x2
      = upd i k0_pay70 (Tile.tile x0 x2) := by
  refine Eq.trans ?_ (read_upd_fresh VS0_0 arg6 i arg2 harg2 arg4 harg4 x0 x2 k0_pay70 VS0_0.junk arg6.view.junk)
  unfold sout0_A_0
  unfold kernelRun0_A
  dsimp only
  sl_unfold_words
  sl_kernel_rfl

/-- The first grid point: the second scratch. -/
theorem sout_A_1 (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) :
    sout0_A_1 c i arg2 harg2 arg3 harg3 arg4 harg4 arg5 harg5 arg6 harg6 arg7 harg7 hc0 hc1 x0 x1 x2
      = upd i k0_pay71 (Tile.tile x1 x2) := by
  refine Eq.trans ?_ (read_upd_fresh VS0_1 arg7 i arg3 harg3 arg4 harg4 x1 x2 k0_pay71 VS0_1.junk arg7.view.junk)
  unfold sout0_A_1
  unfold kernelRun0_A
  dsimp only
  sl_unfold_words
  sl_kernel_rfl

/-- The last grid point leaves the loss of the two updated scratches. -/
theorem out_C (c : Dev nD) (i : grid0.Coords) (arg2 : Memref sig .tc .vmem S1x32x224x224 .f32) (harg2 : arg2.IsWhole) (arg3 : Memref sig .tc .vmem S1x32x224x224 .f32) (harg3 : arg3.IsWhole) (arg4 : Memref sig .tc .vmem S224x112 .f32) (harg4 : arg4.IsWhole) (arg5 : Memref sig .tc .vmem S1x1 .f32) (harg5 : arg5.IsWhole) (arg6 : Memref sig .tc .vmem S4x192x112 .f32) (harg6 : arg6.IsWhole) (arg7 : Memref sig .tc .vmem S4x192x112 .f32) (harg7 : arg7.IsWhole) (hc0) (hc1)
    (x0 : Vec F S1x32x224x224 .f32) (x1 : Vec F S1x32x224x224 .f32) (x2 : Vec F S224x112 .f32) (xs0 : Vec F S4x192x112 .f32) (xs1 : Vec F S4x192x112 .f32) :
    out0_C_3 c i arg2 harg2 arg3 harg3 arg4 harg4 arg5 harg5 arg6 harg6 arg7 harg7 hc0 hc1 x0 x1 x2 xs0 xs1
      = Tail.loss (Tail.hist (upd i xs0 (Tile.tile x0 x2))) (Tail.hist (upd i xs1 (Tile.tile x1 x2))) := by
  rw [Tail.out_C]
  rw [View.readAt_eq_ld arg6.view, View.readAt_eq_ld arg7.view]
  rw [read_upd, read_upd, View.ld_unit_zero (S := S4x192x112) hz3, View.ld_unit_zero (S := S4x192x112) hz3]
  exact View.read_writes_full VO0_3 VO0_3.junk _ _ []

end Cert.Sweep

end
-- ==== Proof.Chain.lean ====
/-
  The two scratches after every grid point: each row holds the capped sums of its batch position's images met so far.
-/
module

public import proofs.«01_k».proof.Proof.Inputs
public import proofs.«01_k».proof.Proof.Sweep

@[expose] public section

set_option maxRecDepth 16384

noncomputable section

namespace Cert.Chain

open Idealize.ShloMosaic Idealize.ShloMosaic.ValueIdx Idealize.ShloMosaic.TcCoe Idealize.SL.Sem
open Cert.KernelIdeal Cert.KernelIdeal.Gen Cert.KernelIdeal.Value

/-- The updated row, entry by entry. -/
theorem upd_apply (i : grid0.Coords) (xs : Vec Ideal S4x192x112 .f32) (t : FVec Ideal S192x112 .f32)
    (b : Fin 4) (j : Fin 192) (l : Fin 112) :
    Sweep.upd i xs t (ix3 b j l) = if b.val = (i 0).val then xs (ix3 b j l) + t (ix2 j l) else xs (ix3 b j l) := by
  unfold Sweep.upd VecWindow.put
  have e := k0_off1_eq i
  by_cases h : b.val = (i 0).val
  · have hin : ∀ a, k0_off1 i a ≤ ((ix3 b j l : S4x192x112.Idx) a).val
        ∧ ((ix3 b j l : S4x192x112.Idx) a).val < k0_off1 i a + S1x192x112.size a := by
      intro a
      rw [e]
      fin_cases a
      · show (i 0).val ≤ b.val ∧ b.val < (i 0).val + 1
        omega
      · show 0 ≤ j.val ∧ j.val < 0 + 192
        omega
      · show 0 ≤ l.val ∧ l.val < 0 + 112
        omega
    rw [if_pos h, dif_pos hin]
    have hl : Rect.unitLocal (s := S4x192x112) (off := k0_off1 i) (size := S1x192x112.size) (ix3 b j l) hin
        = (ix3 0 j l : S1x192x112.Idx) := by
      funext a
      apply Fin.ext
      show ((ix3 b j l : S4x192x112.Idx) a).val - k0_off1 i a = _
      rw [e]
      fin_cases a
      · show b.val - (i 0).val = 0
        omega
      · show j.val - 0 = j.val
        omega
      · show l.val - 0 = l.val
        omega
    rw [hl]
    unfold k0_pay4
    rw [shapeCast_apply _ _ (ix3 0 j l) (ix2 j l : S192x112.Idx) (by
      rw [Shape.rowMajor_val_three, Shape.rowMajor_val_two]
      simp [ix2, ix3])]
    rw [addf_apply]
    congr 1
    rw [shapeCast_apply _ _ (ix2 j l) (ix3 0 j l : S1x192x112.Idx) (by
      rw [Shape.rowMajor_val_three, Shape.rowMajor_val_two]
      simp [ix2, ix3])]
    unfold View.ld
    congr 1
    funext a
    apply Fin.ext
    show k0_off1 i a + 1 * ((ix3 0 j l : S1x192x112.Idx) a).val = _
    rw [e]
    fin_cases a
    · show (i 0).val + 1 * 0 = b.val
      omega
    · show 0 + 1 * j.val = j.val
      omega
    · show 0 + 1 * l.val = l.val
      omega
  · rw [if_neg h, dif_neg]
    intro hin
    have h0 := hin 0
    rw [e] at h0
    have h1 : (i 0).val ≤ b.val ∧ b.val < (i 0).val + 1 := h0
    omega

/-- What grid point `t` adds to an entry of the row of its batch position. -/
def tnum (X : ℕ → ℕ → ℕ → ℕ → ℝ) (t k r l : ℕ) : ℕ :=
  ∑ i ∈ Finset.range 32, ∑ g : Fin 14, min (Blur.level (X (t / 3) (32 * (t % 3) + i)) (8 * g + r) l) (k + 1)

/-- An entry of a scratch after `n` grid points. -/
def acc (X : ℕ → ℕ → ℕ → ℕ → ℝ) (n b k r l : ℕ) : ℕ := ∑ t ∈ Finset.range n, if b = t / 3 then tnum X t k r l else 0

/-- A scratch holds the capped sums of the first `n` grid points. -/
def Holds (X : ℕ → ℕ → ℕ → ℕ → ℝ) (s : Vec Ideal S4x192x112 .f32) (n : ℕ) : Prop :=
  ∀ (b : Fin 4) (k : Fin 24) (r : Fin 8) (l : Fin 112) (j : Fin 192), j.val = 8 * k.val + r.val →
    s (ix3 b j l) = (((acc X n b k r l : ℕ) : ℝ) : EReal)

/-- One grid point more. -/
theorem holds_upd (X : ℕ → ℕ → ℕ → ℕ → ℝ) (hX : ∀ b d p q, 0 ≤ X b d p q) (t : Fin cfg0.N) (s : Vec Ideal S4x192x112 .f32)
    (hs : Holds X s t.val) (x : Vec Ideal S1x32x224x224 .f32) (a : Vec Ideal S224x112 .f32)
    (hx : TileVal.Block x fun n => X (t.val / 3) (32 * (t.val % 3) + n)) (ha : TileVal.Weights a) :
    Holds X (Sweep.upd (grid0.coords t) s (Tile.tile x a)) (t.val + 1) := by
  intro b k r l j hj
  rw [upd_apply, hs b k r l j hj, Inputs.coords_0, TileVal.tile_apply x a _ hx (fun _ _ _ => hX _ _ _ _) ha k r l j hj]
  unfold acc
  rw [Finset.sum_range_succ _ t.val]
  by_cases h : b.val = t.val / 3
  · rw [if_pos h, if_pos h, Nat.cast_add, EReal.coe_add]
    rfl
  · rw [if_neg h, if_neg h, Nat.add_zero]

/-- The arrays' images. -/
def Images (X : ℕ → ℕ → ℕ → ℕ → ℝ) (v : S4x96x224x224.Idx → EReal) : Prop :=
  ∀ (b : Fin 4) (d : Fin 96) (p q : Fin 224), v (ix4 b d p q) = (X b d p q : EReal)

section

variable (m : (ℓ : Loc nD τ sig) → Buf (Elt Ideal) ℓ) (c : Dev nD)

variable {m c} in
theorem images_0 {X : ℕ → ℕ → ℕ → ℕ → ℝ} (h : Images X (m ((c : Thread nD τ).loc main_arg0))) (t : Fin cfg0.N) :
    TileVal.Block (iblk m c 0 t) fun n => X (t.val / 3) (32 * (t.val % 3) + n) := by
  intro n p q
  have ht : t.val < 12 := lt_of_lt_of_eq t.isLt N_0
  rw [Inputs.block_0 m c t n p q ⟨t.val / 3, by omega⟩ rfl ⟨32 * (t.val % 3) + n.val, by omega⟩ rfl, h]

variable {m c} in
theorem images_1 {X : ℕ → ℕ → ℕ → ℕ → ℝ} (h : Images X (m ((c : Thread nD τ).loc main_arg1))) (t : Fin cfg0.N) :
    TileVal.Block (iblk m c 1 t) fun n => X (t.val / 3) (32 * (t.val % 3) + n) := by
  intro n p q
  have ht : t.val < 12 := lt_of_lt_of_eq t.isLt N_0
  rw [Inputs.block_1 m c t n p q ⟨t.val / 3, by omega⟩ rfl ⟨32 * (t.val % 3) + n.val, by omega⟩ rfl, h]

/-- A scratch starts at zero. -/
theorem holds_zero (X : ℕ → ℕ → ℕ → ℕ → ℝ) (s : Vec Ideal S4x192x112 .f32) (h : ∀ y, s y = Ideal.ofBits .f32 0x00000000#32) :
    Holds X s 0 := by
  intro b k r l j _
  rw [h, Ideal.ofBits_zero_f32]
  simp [acc]

/-- Both scratches, after every grid point. -/
theorem holds (X Y : ℕ → ℕ → ℕ → ℕ → ℝ) (hX : ∀ b d p q, 0 ≤ X b d p q) (hY : ∀ b d p q, 0 ≤ Y b d p q)
    (h0 : Images X (m ((c : Thread nD τ).loc main_arg0))) (h1 : Images Y (m ((c : Thread nD τ).loc main_arg1))) :
    ∀ (n : ℕ) (hn : n < cfg0.N), Holds X (outsAt0 m c n hn).2.1 (n + 1) ∧ Holds Y (outsAt0 m c n hn).2.2 (n + 1)
  | 0, hn => by
      rw [outsAt0_zero, stAt0_A m c ⟨0, hn⟩ _ (Nat.zero_mod _) (by simp)]
      dsimp only
      rw [Sweep.sout_A_0, Sweep.sout_A_1]
      exact ⟨holds_upd X hX ⟨0, hn⟩ _ (holds_zero X _ fun y => rfl) _ _ (images_0 h0 _) (Inputs.block_2 m c ⟨0, hn⟩),
        holds_upd Y hY ⟨0, hn⟩ _ (holds_zero Y _ fun y => rfl) _ _ (images_1 h1 _) (Inputs.block_2 m c ⟨0, hn⟩)⟩
  | n + 1, hn => by
      have hN : n + 1 < 12 := lt_of_lt_of_eq hn N_0
      obtain ⟨i0, i1⟩ := holds X Y hX hY h0 h1 n (Nat.lt_of_succ_lt hn)
      have p0 := holds_upd X hX ⟨n + 1, hn⟩ _ i0 _ _ (images_0 h0 _) (Inputs.block_2 m c ⟨n + 1, hn⟩)
      have p1 := holds_upd Y hY ⟨n + 1, hn⟩ _ i1 _ _ (images_1 h1 _) (Inputs.block_2 m c ⟨n + 1, hn⟩)
      rw [outsAt0_succ]
      by_cases hl : (n + 1) % 12 = 11
      · rw [stAt0_C m c ⟨n + 1, hn⟩ _ (by show ¬(n + 1) % 12 = 0; omega) hl]
        dsimp only
        rw [Sweep.sout_C_0, Sweep.sout_C_1]
        exact ⟨p0, p1⟩
      · rw [stAt0_B m c ⟨n + 1, hn⟩ _ (by show ¬(n + 1) % 12 = 0; omega) hl]
        dsimp only
        rw [Sweep.sout_B_0, Sweep.sout_B_1]
        exact ⟨p0, p1⟩

/-- The kernel's result: the loss of two scratches that hold every capped sum. -/
theorem result (X Y : ℕ → ℕ → ℕ → ℕ → ℝ) (hX : ∀ b d p q, 0 ≤ X b d p q) (hY : ∀ b d p q, 0 ≤ Y b d p q)
    (h0 : Images X (m ((c : Thread nD τ).loc main_arg0))) (h1 : Images Y (m ((c : Thread nD τ).loc main_arg1))) :
    ∃ s t : Vec Ideal S4x192x112 .f32, Holds X s 12 ∧ Holds Y t 12 ∧ G3 m c = Tail.loss (Tail.hist s) (Tail.hist t) := by
  have hn : 11 < cfg0.N := lt_of_lt_of_eq (by decide) N_0.symm
  have hn' : 10 < cfg0.N := lt_of_lt_of_eq (by decide) N_0.symm
  obtain ⟨i0, i1⟩ := holds m c X Y hX hY h0 h1 10 hn'
  refine ⟨_, _, holds_upd X hX ⟨11, hn⟩ _ i0 _ _ (images_0 h0 _) (Inputs.block_2 m c ⟨11, hn⟩),
    holds_upd Y hY ⟨11, hn⟩ _ i1 _ _ (images_1 h1 _) (Inputs.block_2 m c ⟨11, hn⟩), ?_⟩
  rw [G3_last, ← outsAt0_sweep m c 11 hn, outsAt0_succ m c 10 hn, stAt0_C m c ⟨11, hn⟩ _ (by show ¬11 % 12 = 0; decide) (by show 11 % 12 = 11; rfl)]
  dsimp only
  rw [Sweep.out_C]

end

/-- All twelve grid points: every image of the batch position. -/
theorem acc_all (X : ℕ → ℕ → ℕ → ℕ → ℝ) (b : Fin 4) (k r l : ℕ) :
    acc X 12 b k r l = ∑ d ∈ Finset.range 96, ∑ g : Fin 14, min (Blur.level (X b d) (8 * g + r) l) (k + 1) := by
  have e : ∀ f : ℕ → ℕ, ∑ d ∈ Finset.range 96, f d
      = ∑ i ∈ Finset.range 32, f (32 * 0 + i) + ∑ i ∈ Finset.range 32, f (32 * 1 + i) + ∑ i ∈ Finset.range 32, f (32 * 2 + i) := fun f => by
    rw [show 96 = 32 + 32 + 32 from rfl, Finset.sum_range_add, Finset.sum_range_add]
    simp
  rw [e]
  unfold acc tnum
  fin_cases b <;> simp [Finset.sum_range_succ _ 0, Finset.sum_range_succ _ 1, Finset.sum_range_succ _ 2, Finset.sum_range_succ _ 3, Finset.sum_range_succ _ 4, Finset.sum_range_succ _ 5,
    Finset.sum_range_succ _ 6, Finset.sum_range_succ _ 7, Finset.sum_range_succ _ 8, Finset.sum_range_succ _ 9, Finset.sum_range_succ _ 10, Finset.sum_range_succ _ 11]

end Cert.Chain

end
-- ==== Proof.Hist.lean ====
/-
  The histogram the last grid point reads off a scratch: its lanes and columns added up as integers, then differenced twice.
-/
module

public import proofs.«01_k».proof.Proof.Chain
public import proofs.«01_k».proof.Proof.Levels
public import Idealize.ShloMosaic.Lib.WordSum

@[expose] public section

set_option maxRecDepth 16384

noncomputable section

namespace Cert.Hist

open Idealize.ShloMosaic Idealize.ShloMosaic.ValueIdx
open Cert.KernelIdeal Cert.KernelIdeal.Gen

/-- An integer sum over one axis. -/
theorem sum_single {s t : Shape} {a : Fin s.rank} (src : IVec s 32) (h : s.Reduces [a] t)
    (hacc : (0#32 : BitVec 32) = IKind.add.neutral) (j : t.Idx) :
    multiReductionI .add [a] t src 0#32 h hacc j = ∑ k : Fin (s.size a), src (h.lift j k) := by
  rw [multiReductionI_eq_reduceFold]
  show reduceFold h (· + ·) (0#32 : BitVec 32) src j = _
  rw [reduceFold_add_eq_sum, h.sum_filter_drop_single, show (0#32 : BitVec 32) = 0 from rfl, zero_add]

/-- A natural number below two to the thirty-one, as a word. -/
theorem toWord (n : ℕ) (hn : n < 2 ^ 31) : Ideal.fptosi 32 (((n : ℝ)) : EReal) = ((n : ℕ) : BitVec 32) := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    rw [min_eq_right, max_eq_right] <;> norm_num <;> omega
  rw [this, BitVec.ofInt_natCast]
  rfl

/-- The images of a batch position: channel, row, column. -/
abbrev Pix := Fin 96 × Fin 112 × Fin 112

/-- The level of a pixel. -/
def pic (X : ℕ → ℕ → ℕ → ℕ → ℝ) (b : Fin 4) (i : Pix) : ℕ := Blur.level (X b i.1) i.2.1 i.2.2

theorem card_pix : Fintype.card Pix = 1204224 := by simp [Pix]

/-- A scratch's entries are small. -/
theorem acc_le (X : ℕ → ℕ → ℕ → ℕ → ℝ) (b : Fin 4) (k : Fin 24) (r l : ℕ) : Chain.acc X 12 b k r l < 2 ^ 31 := by
  rw [Chain.acc_all]
  have h : ∑ d ∈ Finset.range 96, ∑ g : Fin 14, min (Blur.level (X b d) (8 * g + r) l) (k + 1)
      ≤ ∑ d ∈ Finset.range 96, ∑ g : Fin 14, 24 :=
    Finset.sum_le_sum fun d _ => Finset.sum_le_sum fun g _ => (min_le_right _ _).trans (by omega)
  refine lt_of_le_of_lt h ?_
  simp

/-- A sum over a product's positions, group by group. -/
theorem sum_split (a b : ℕ) (f : ℕ → ℕ) : ∑ h : Fin (a * b), f h = ∑ r : Fin b, ∑ g : Fin a, f (b * g + r) := by
  rw [← Equiv.sum_comp (finProdFinEquiv (m := a) (n := b)) fun h => f h.val, Fintype.sum_prod_type, Finset.sum_comm]
  refine Finset.sum_congr rfl fun r _ => Finset.sum_congr rfl fun g _ => ?_
  show f (r.val + b * g.val) = _
  rw [add_comm]

/-- A column's rows in fourteen groups of eight. -/
theorem sum_rows (f : ℕ → ℕ) : ∑ h : Fin 112, f h = ∑ r : Fin 8, ∑ g : Fin 14, f (8 * g + r) :=
  sum_split 14 8 f

/-- The scratch's order of summation is the pixels' order. -/
theorem sum_order (f : ℕ → ℕ → ℕ → ℕ) :
    ∑ r : Fin 8, ∑ l : Fin 112, ∑ d ∈ Finset.range 96, ∑ g : Fin 14, f d (8 * g + r) l
      = ∑ d : Fin 96, ∑ h : Fin 112, ∑ w : Fin 112, f d h w := by
  have e : ∀ d : Fin 96, ∑ h : Fin 112, ∑ w : Fin 112, f d h w = ∑ r : Fin 8, ∑ l : Fin 112, ∑ g : Fin 14, f d (8 * g + r) l := fun d =>
    (sum_rows fun h => ∑ w : Fin 112, f d h w).trans (Finset.sum_congr rfl fun r _ => Finset.sum_comm)
  refine Eq.trans ?_ (Finset.sum_congr rfl fun d _ => (e d).symm)
  refine Eq.trans ?_ Finset.sum_comm
  refine Finset.sum_congr rfl fun r _ => ?_
  refine Eq.trans ?_ Finset.sum_comm
  refine Finset.sum_congr rfl fun l _ => ?_
  exact Finset.sum_range fun d => ∑ g : Fin 14, f d (8 * g + r) l

/-- A scratch's columns and lanes added up: the capped sum of the batch position's pixels. -/
theorem sum_acc (X : ℕ → ℕ → ℕ → ℕ → ℝ) (b : Fin 4) (k : ℕ) :
    ∑ r : Fin 8, ∑ l : Fin 112, Chain.acc X 12 b k r l = Levels.capSum (pic X b) (k + 1) := by
  have e := sum_order fun d h w => min (Blur.level (X b d) h w) (k + 1)
  unfold Levels.capSum pic
  rw [Fintype.sum_prod_type]
  simp only [Fintype.sum_prod_type, Chain.acc_all]
  exact e

/-- A scratch's lanes added up. -/
theorem lanes_apply (X : ℕ → ℕ → ℕ → ℕ → ℝ) (s : Vec Ideal S4x192x112 .f32) (hs : Chain.Holds X s 12)
    (b : Fin 4) (k : Fin 24) (r : Fin 8) (j : Fin 192) (hj : j.val = 8 * k.val + r.val) :
    Tail.lanes s (ix2 b j) = ((∑ l : Fin 112, Chain.acc X 12 b k r l : ℕ) : BitVec 32) := by
  unfold Tail.lanes
  refine (sum_single _ _ _ _).trans ?_
  rw [Nat.cast_sum]
  refine Finset.sum_congr rfl fun l _ => ?_
  have hl : reduces_S4x192x112_S4x192.lift (ix2 b j : S4x192.Idx) l = (ix3 b j l : S4x192x112.Idx) := by
    funext d; fin_cases d <;> rfl
  rw [hl]
  show Ideal.fptosi 32 (s (ix3 b j l)) = _
  rw [hs b k r l j hj, toWord _ (acc_le X b k r l)]

/-- The capped sums. -/
theorem groups_apply (X : ℕ → ℕ → ℕ → ℕ → ℝ) (s : Vec Ideal S4x192x112 .f32) (hs : Chain.Holds X s 12) (b : Fin 4) (k : Fin 24) :
    Tail.groups (Tail.lanes s) (ix2 b k) = ((Levels.capSum (pic X b) (k + 1) : ℕ) : BitVec 32) := by
  unfold Tail.groups
  refine (concatenate_ofFn_apply (s₁ := S4x1) (t := S4x24) 1 (fun k : Fin 24 => Tail.group (Tail.lanes s) k) _ rfl 1 rfl (ix2 b k) k
    (by simp [ix2]) (ix2 b 0) (by simp [ix2]; omega) (by
      intro a ha; fin_cases a
      · rfl
      · exact absurd rfl ha)).trans ?_
  unfold Tail.group
  rw [shapeCast_apply _ _ (ix2 b 0) (ix1 b : S4.Idx) (by
    rw [Shape.rowMajor_val_two, Shape.rowMajor_val_one]
    simp [ix1, ix2])]
  refine (sum_single _ _ _ _).trans ?_
  rw [← sum_acc, Nat.cast_sum]
  refine Finset.sum_congr rfl fun (r : Fin 8) _ => ?_
  have hl : reduces_S4x8_S4.lift (ix1 b : S4.Idx) r = (ix2 b r : S4x8.Idx) := by
    funext d; fin_cases d <;> rfl
  rw [hl, extractStridedSlice_apply _ _ _ (ix2 b r) (ix2 b ⟨8 * k.val + r.val, by omega⟩ : S4x192.Idx) (by
    intro d; fin_cases d
    · simp [ix2]
    · rfl)]
  exact lanes_apply X s hs b k r _ rfl

/-- The capped sums moved on by one place, a zero in front. -/
theorem moved_apply (S : ℕ → ℤ) (hS : S 0 = 0) (s : IVec S4x24 32) (b : Fin 4) (hs : ∀ k : Fin 24, s (ix2 b k) = ((S (k + 1) : ℤ) : BitVec 32))
    (k : Fin 24) :
    concatenate S4x24 1 [⟨S4x1, broadcast S4x1 0#32⟩, ⟨S4x23, extractStridedSlice S4x23 ![0, 0] s slices_S4x24_o0_0_S4x23⟩]
      concatenates_S4x1_S4x23_S4x24_d1 (ix2 b k) = ((S k : ℤ) : BitVec 32) := by
  by_cases h : k.val = 0
  · refine (concatenate_pair_apply_left (t := S4x24) (s₁ := S4x1) (s₂ := S4x23) 1 _ _ concatenates_S4x1_S4x23_S4x24_d1 (ix2 b k) rfl (ix2 b 0) (by
      intro a; fin_cases a
      · rfl
      · simp [ix2, h])).trans ?_
    rw [h, hS]
    rfl
  · refine (concatenate_pair_apply_right (t := S4x24) (s₁ := S4x1) (s₂ := S4x23) 1 _ _ concatenates_S4x1_S4x23_S4x24_d1 (ix2 b k) rfl rfl
      (ix2 b ⟨k.val - 1, by omega⟩) (by
        intro a ha; fin_cases a
        · rfl
        · exact absurd rfl ha) (by
        show k.val - 1 + 1 = k.val
        omega)).trans ?_
    rw [extractStridedSlice_apply _ _ _ _ (ix2 b ⟨k.val - 1, by omega⟩ : S4x24.Idx) (by
      intro d; fin_cases d
      · simp [ix2]
      · simp [ix2]), hs]
    show ((S (k.val - 1 + 1) : ℤ) : BitVec 32) = _
    rw [show k.val - 1 + 1 = k.val by omega]

/-- The three pieces of the differences. -/
def pieces (s : IVec S4x24 32) : List ((T : Shape) × (T.Idx → BitVec 32)) :=
  [⟨S4x1, broadcast S4x1 1204224#32⟩,
    ⟨S4x24, subi s (concatenate S4x24 1 [⟨S4x1, broadcast S4x1 0#32⟩, ⟨S4x23, extractStridedSlice S4x23 ![0, 0] s slices_S4x24_o0_0_S4x23⟩]
      concatenates_S4x1_S4x23_S4x24_d1)⟩,
    ⟨S4x1, broadcast S4x1 0#32⟩]

/-- The capped sums' differences. -/
theorem exten_apply (S : ℕ → ℤ) (hS : S 0 = 0) (s : IVec S4x24 32) (b : Fin 4) (hs : ∀ k : Fin 24, s (ix2 b k) = ((S (k + 1) : ℤ) : BitVec 32))
    (k : Fin 26) : Tail.exten s (ix2 b k) = ((Levels.ext 1204224 S k : ℤ) : BitVec 32) := by
  show concatenate S4x26 1 (pieces s) concatenates_S4x1_S4x24_S4x1_S4x26_d1 (ix2 b k) = _
  unfold Levels.ext
  by_cases h0 : k.val = 0
  · rw [if_pos h0]
    refine (concatenate_apply_piece (t := S4x26) 1 (pieces s) concatenates_S4x1_S4x24_S4x1_S4x26_d1 (ix2 b k) 0 (by simp [pieces]) S4x1 _ rfl rfl 0 rfl (ix2 b 0) (by
      intro a ha; fin_cases a
      · rfl
      · exact absurd rfl ha) (by
      show 0 + 0 = k.val
      omega)).trans ?_
    rfl
  · rw [if_neg h0]
    by_cases h1 : k.val ≤ 24
    · rw [if_pos h1]
      refine (concatenate_apply_piece (t := S4x26) 1 (pieces s) concatenates_S4x1_S4x24_S4x1_S4x26_d1 (ix2 b k) 1 (by simp [pieces]) S4x24 _ rfl rfl 1 rfl
        (ix2 b ⟨k.val - 1, by omega⟩) (by
        intro a ha; fin_cases a
        · rfl
        · exact absurd rfl ha) (by
        show 1 + (k.val - 1) = k.val
        omega)).trans ?_
      rw [Int.cast_sub, ← moved_apply S hS s b hs ⟨k.val - 1, by omega⟩]
      show s _ - _ = _
      rw [hs]
      show ((S (k.val - 1 + 1) : ℤ) : BitVec 32) - _ = _
      rw [show k.val - 1 + 1 = k.val by omega]
    · rw [if_neg h1]
      refine (concatenate_apply_piece (t := S4x26) 1 (pieces s) concatenates_S4x1_S4x24_S4x1_S4x26_d1 (ix2 b k) 2 (by simp [pieces]) S4x1 _ rfl rfl 25 rfl (ix2 b 0) (by
        intro a ha; fin_cases a
        · rfl
        · exact absurd rfl ha) (by
        show 25 + 0 = k.val
        omega)).trans ?_
      rfl

/-- The histogram of a scratch: how many pixels fall in each bin. -/
theorem hist_apply (X : ℕ → ℕ → ℕ → ℕ → ℝ) (s : Vec Ideal S4x192x112 .f32) (hs : Chain.Holds X s 12) (b : Fin 4) (k : Fin 25) :
    Tail.hist s (ix2 b k) = (((Levels.bin (pic X b) k : ℕ) : ℝ) : EReal) := by
  have he := exten_apply (fun k => (Levels.capSum (pic X b) k : ℤ)) (by simp [Levels.capSum_zero]) (Tail.groups (Tail.lanes s)) b
    (fun k => by rw [groups_apply X s hs b k, Int.cast_natCast])
  unfold Tail.hist Tail.histo
  show ((((extractStridedSlice S4x25 ![0, 0] (Tail.exten (Tail.groups (Tail.lanes s))) slices_S4x26_o0_0_S4x25 (ix2 b k)
    - extractStridedSlice S4x25 ![0, 1] (Tail.exten (Tail.groups (Tail.lanes s))) slices_S4x26_o0_1_S4x25 (ix2 b k) : BitVec 32).toInt : ℤ) : ℝ) : EReal) = _
  rw [extractStridedSlice_apply _ _ _ (ix2 b k) (ix2 b ⟨k.val, by omega⟩ : S4x26.Idx) (by
      intro d; fin_cases d
      · simp [ix2]
      · simp [ix2]),
    extractStridedSlice_apply _ _ _ (ix2 b k) (ix2 b ⟨k.val + 1, by omega⟩ : S4x26.Idx) (by
      intro d; fin_cases d
      · simp [ix2]
      · simp [ix2]; omega), he, he, ← Int.cast_sub]
  have hx := Levels.ext_sub (pic X b) k.val k.isLt
  have hc : ((Fintype.card Pix : ℕ) : ℤ) = 1204224 := by rw [card_pix]; norm_num
  rw [hc] at hx
  rw [hx]
  have hb : Levels.bin (pic X b) k.val ≤ 1204224 := (Levels.bin_le _ _).trans card_pix.le
  have ht : (((Levels.bin (pic X b) k.val : ℤ)) : BitVec 32).toInt = (Levels.bin (pic X b) k.val : ℤ) := by
    rw [Int.cast_natCast]
    show (BitVec.ofNat 32 (Levels.bin (pic X b) k.val)).toInt = _
    have hn : (BitVec.ofNat 32 (Levels.bin (pic X b) k.val)).toNat = Levels.bin (pic X b) k.val :=
      (BitVec.toNat_ofNat _ _).trans (Nat.mod_eq_of_lt (by omega))
    rw [BitVec.toInt_eq_toNat_of_lt (by rw [hn]; omega), hn]
  rw [ht, Int.cast_natCast]

end Cert.Hist

end
-- ==== Proof.KVal.lean ====
/-
  The kernel's loss over real histograms.
-/
module

public import proofs.«01_k».proof.Proof.Hist

@[expose] public section

set_option maxRecDepth 16384

noncomputable section

namespace Cert.KVal

open Idealize.ShloMosaic Idealize.ShloMosaic.ValueIdx Idealize.ShloMosaic.TcCoe
open Cert.KernelIdeal Cert.KernelIdeal.Gen

/-- The floor under the product of two norms. -/
def eps : ℝ := 8796093 / 8796093022208

theorem eps_pos : 0 < eps := by unfold eps; norm_num

/-- Its word. -/
theorem word_eps : Ideal.ofBits .f32 0x358637BD#32 = (eps : EReal) := by
  simp [Ideal.ofBits, Ideal.ieee, eps]
  rw [← EReal.coe_mul]
  norm_num

theorem word_one : Ideal.ofBits .f32 0x3F800000#32 = ((1 : ℝ) : EReal) := by
  simp [Ideal.ofBits, Ideal.ieee]
  rw [← EReal.coe_mul]
  norm_num

theorem word_92 : Ideal.ofBits .f32 0x42B80000#32 = ((92 : ℝ) : EReal) := by
  simp [Ideal.ofBits, Ideal.ieee]
  rw [← EReal.coe_mul]
  norm_num

theorem word_384 : Ideal.ofBits .f32 0x43C00000#32 = ((384 : ℝ) : EReal) := by
  simp [Ideal.ofBits, Ideal.ieee]
  rw [← EReal.coe_mul]
  norm_num

/-- A histogram with real entries. -/
def Rows (x : FVec Ideal S4x25 .f32) (H : ℕ → Fin 25 → ℝ) : Prop := ∀ (b : Fin 4) (k : Fin 25), x (ix2 b k) = (H b k : EReal)

/-- The named constant. -/
theorem scale : (Named.named κ "inv_shape" 0x37A72F05#32 : Ideal .f32) = ((1 / 50176 : ℝ) : EReal) :=
  IdealRules.named_const.ideal_named_scalar _ _ _ _ rfl

/-- Some rows added up and scaled. -/
theorem scaled_apply (N b : ℕ) (hN : b + N ≤ 4) (x : FVec Ideal S4x25 .f32) (H : ℕ → Fin 25 → ℝ) (hx : Rows x H)
    (hs : S4x25.Slices ![b, 0] (⟨2, ![N, 25]⟩ : Shape)) (h : Shape.Reduces (⟨2, ![N, 25]⟩ : Shape) [0] S25) (k : Fin 25) :
    Tail.scaled (extractStridedSlice (⟨2, ![N, 25]⟩ : Shape) ![b, 0] x hs) [0] h (ix1 k) = ((Loss.seg H b (b + N) k : ℝ) : EReal) := by
  unfold Tail.scaled Loss.seg
  rw [mulf_apply, EReal.coe_mul]
  refine congrArg₂ (· * ·) ?_ scale
  · refine (Ideal.multiReduction_add_single _ _ _ _ _ _).trans ?_
    rw [Finset.sum_Ico_eq_sum_range, Nat.add_sub_cancel_left, Finset.sum_range, Loss.coe_sum]
    refine Finset.sum_congr rfl fun (i : Fin N) _ => ?_
    have hl : h.lift (ix1 k : S25.Idx) i = (ix2 i k : (⟨2, ![N, 25]⟩ : Shape).Idx) := by
      funext d; fin_cases d <;> rfl
    rw [hl, extractStridedSlice_apply _ _ _ (ix2 i k) (ix2 ⟨b + i.val, by omega⟩ k : S4x25.Idx) (by
      intro d; fin_cases d
      · rfl
      · simp [ix2]), hx]

/-- All rows added up and scaled. -/
theorem scaled_all (x : FVec Ideal S4x25 .f32) (H : ℕ → Fin 25 → ℝ) (hx : Rows x H) (k : Fin 25) :
    Tail.scaled x [0] reduces_S4x25_S25 (ix1 k) = ((Loss.seg H 0 4 k : ℝ) : EReal) := by
  unfold Tail.scaled Loss.seg
  rw [mulf_apply, EReal.coe_mul]
  refine congrArg₂ (· * ·) ?_ scale
  · refine (Ideal.multiReduction_add_single _ _ _ _ _ _).trans ?_
    rw [← Finset.range_eq_Ico, Finset.sum_range, Loss.coe_sum]
    refine Finset.sum_congr rfl fun (i : Fin 4) _ => ?_
    have hl : reduces_S4x25_S25.lift (ix1 k : S25.Idx) i = (ix2 i k : S4x25.Idx) := by
      funext d; fin_cases d <;> rfl
    rw [hl, hx]

/-- The product of two rows, added up. -/
theorem inner_apply (u v : FVec Ideal S25 .f32) : Tail.inner u v = ∑ k : Fin 25, u (ix1 k) * v (ix1 k) := by
  unfold Tail.inner extractAt
  rw [shapeCast_apply _ _ _ (ix1 0 : S1.Idx) (by
    rw [Shape.rowMajor_val_two, Shape.rowMajor_val_one]
    rfl)]
  refine (Ideal.multiReduction_add_single _ _ _ _ _ _).trans ?_
  refine Finset.sum_congr rfl fun (k : Fin 25) _ => ?_
  have hl : reduces_S1x25_S1.lift (ix1 0 : S1.Idx) k = (ix2 0 k : S1x25.Idx) := by
    funext d; fin_cases d <;> rfl
  rw [hl, shapeCast_apply _ _ _ (ix1 k : S25.Idx) (by
    rw [Shape.rowMajor_val_two, Shape.rowMajor_val_one]
    simp [ix1, ix2])]
  rfl

/-- The cosine of two real rows. -/
theorem cosRow_apply (u v : FVec Ideal S25 .f32) (U V : Fin 25 → ℝ) (hu : ∀ k, u (ix1 k) = (U k : EReal)) (hv : ∀ k, v (ix1 k) = (V k : EReal)) :
    Tail.cosRow u v = ((Loss.cosine eps U V : ℝ) : EReal) := by
  unfold Tail.cosRow
  rw [inner_apply, inner_apply, inner_apply]
  simp only [hu, hv]
  rw [← Loss.cosine_ereal eps eps_pos, ← word_eps]
  rfl

/-- A pair of batch positions. -/
theorem part_apply (N b : ℕ) (hN : b + N ≤ 4) (x y : FVec Ideal S4x25 .f32) (H G : ℕ → Fin 25 → ℝ) (hx : Rows x H) (hy : Rows y G)
    (hs : S4x25.Slices ![b, 0] (⟨2, ![N, 25]⟩ : Shape)) (h : Shape.Reduces (⟨2, ![N, 25]⟩ : Shape) [0] S25) :
    Tail.part x y ![b, 0] hs [0] h = ((Loss.pair eps H G b (b + N) : ℝ) : EReal) :=
  cosRow_apply _ _ _ _ (scaled_apply N b hN x H hx hs h) (scaled_apply N b hN y G hy hs h)

/-- One weighted cosine more. -/
theorem plus_apply (t v w : ℝ) (word : BitVec 32) (hw : Ideal.ofBits .f32 word = (w : EReal)) :
    Tail.plus (F := Ideal) (t : EReal) word (v : EReal) = ((t + w * v : ℝ) : EReal) := by
  rw [EReal.coe_add, EReal.coe_mul, ← hw]
  rfl

/-- The kernel's loss of two real histograms. -/
theorem loss_apply (x y : FVec Ideal S4x25 .f32) (H G : ℕ → Fin 25 → ℝ) (hx : Rows x H) (hy : Rows y G) (i : S1x1.Idx) :
    Tail.loss x y i = ((Loss.total (Loss.pair eps H G) / 384 : ℝ) : EReal) := by
  unfold Tail.loss
  dsimp only
  have hz : (Scalar.ofBits .f32 0x00000000#32 : Ideal .f32) = ((0 : ℝ) : EReal) := Ideal.ofBits_zero_f32
  rw [hz, part_apply 1 0 (by omega) x y H G hx hy, part_apply 2 0 (by omega) x y H G hx hy, part_apply 1 1 (by omega) x y H G hx hy,
    part_apply 3 0 (by omega) x y H G hx hy, part_apply 2 1 (by omega) x y H G hx hy, part_apply 1 2 (by omega) x y H G hx hy,
    cosRow_apply _ _ _ _ (scaled_all x H hx) (scaled_all y G hy), part_apply 3 1 (by omega) x y H G hx hy,
    part_apply 2 2 (by omega) x y H G hx hy, part_apply 1 3 (by omega) x y H G hx hy,
    plus_apply _ _ _ _ word_one, plus_apply _ _ _ _ word_one, plus_apply _ _ _ _ word_one, plus_apply _ _ _ _ word_one,
    plus_apply _ _ _ _ word_one, plus_apply _ _ _ _ word_one, plus_apply _ _ _ _ word_92, plus_apply _ _ _ _ word_92,
    plus_apply _ _ _ _ word_92, plus_apply _ _ _ _ word_92]
  show Ideal.div _ (Ideal.ofBits .f32 0x43C00000#32) = _
  rw [word_384, Loss.div_real _ _ (by norm_num)]
  congr 2
  unfold Loss.total Loss.pair
  norm_num

/-- How many pixels of the first images of a batch position fall in a bin. -/
def counts (X : ℕ → ℕ → ℕ → ℕ → ℝ) (b : ℕ) (k : Fin 25) : ℝ := (Levels.bin (fun i : Hist.Pix => Blur.level (X b i.1) i.2.1 i.2.2) k : ℕ)

/-- The histogram of a scratch holds the counts. -/
theorem rows_hist (X : ℕ → ℕ → ℕ → ℕ → ℝ) (s : Vec Ideal S4x192x112 .f32) (hs : Chain.Holds X s 12) : Rows (Tail.hist s) (counts X) := by
  intro b k
  rw [Hist.hist_apply X s hs b k]
  unfold counts Hist.pic
  rfl

/-- The kernel's result, from the two arrays' images. -/
theorem result (m : (ℓ : Loc nD τ sig) → Buf (Elt Ideal) ℓ) (c : Dev nD)
    (X Y : ℕ → ℕ → ℕ → ℕ → ℝ) (hX : ∀ b d p q, 0 ≤ X b d p q) (hY : ∀ b d p q, 0 ≤ Y b d p q)
    (h0 : Chain.Images X (m ((c : Thread nD τ).loc main_arg0))) (h1 : Chain.Images Y (m ((c : Thread nD τ).loc main_arg1))) :
    Value.G3 m c = fun _ => ((Loss.total (Loss.pair eps (counts X) (counts Y)) / 384 : ℝ) : EReal) := by
  obtain ⟨s, t, hs, ht, e⟩ := Chain.result m c X Y hX hY h0 h1
  rw [e]
  funext i
  exact loss_apply _ _ _ _ (rows_hist X s hs) (rows_hist Y t ht) i

end Cert.KVal

end
-- ==== Proof.RPad.lean ====
/-
  The reference's reflected border: an entry of the padded batch is the entry of the batch at the reflected row and column.
-/
module

public import proofs.«01_k».proof.Proof.Gen.ReferenceIdeal.Read
public import proofs.«01_k».proof.Proof.Blur
public import Idealize.ShloMosaic.Lib.ValueIdx

@[expose] public section

noncomputable section

namespace Cert.RPad

open Idealize.ShloMosaic Idealize.ShloMosaic.ValueIdx
open Cert.ReferenceIdeal Cert.ReferenceIdeal.Gen Cert.ReferenceIdeal.Read

/-- A row of the padded image shows a row of the image. -/
theorem refl_lt (p : ℕ) (hp : p < 230) : Blur.refl p < 224 := by
  unfold Blur.refl
  split_ifs <;> omega

/-- The row that padded row `p` shows. -/
def at' (p : ℕ) (hp : p < 230) : Fin 224 := ⟨Blur.refl p, refl_lt p hp⟩

/-- Reversed rows, read at an index. -/
theorem rev_rows {A B C D : ℕ} (y : (⟨4, ![A, B, C, D]⟩ : Shape).Idx → EReal) (b : Fin A) (d : Fin B) (r : Fin C) (q : Fin D) :
    Host.reverse [2] y (ix4 b d r q) = y (ix4 b d r.rev q) := by
  refine congrArg y (funext fun a => ?_)
  fin_cases a <;> rfl

/-- Reversed columns, read at an index. -/
theorem rev_cols {A B C D : ℕ} (y : (⟨4, ![A, B, C, D]⟩ : Shape).Idx → EReal) (b : Fin A) (d : Fin B) (r : Fin C) (q : Fin D) :
    Host.reverse [3] y (ix4 b d r q) = y (ix4 b d r q.rev) := by
  refine congrArg y (funext fun a => ?_)
  fin_cases a <;> rfl

variable (x : (⟨S4x96x224x224, .f32⟩ : BufTy).Contents (Elt Ideal))

/-- The batch with three reflected rows on top. -/
theorem top_apply (b : Fin 4) (d : Fin 96) (p : Fin 227) (q : Fin 224) :
    val_main_call0_v3 x (ix4 b d p q : S4x96x227x224.Idx) = x (ix4 b d (at' p (by omega)) q : S4x96x224x224.Idx) := by
  have hp := p.isLt
  unfold val_main_call0_v3
  by_cases h : p.val < 3
  · refine (concatenate_pair_apply_left (t := S4x96x227x224) (s₁ := S4x96x3x224) (s₂ := S4x96x224x224) 2 _ _
      concatenates_S4x96x3x224_S4x96x224x224_S4x96x227x224_d2 (ix4 b d p q) rfl (ix4 b d (⟨p.val, h⟩ : Fin 3) q)
      (by intro a; fin_cases a <;> rfl)).trans ?_
    refine (rev_rows (val_main_call0_v1 x) b d _ q).trans ?_
    refine (val_main_call0_v1_apply x _).trans (congrArg x ?_)
    funext a
    fin_cases a
    · rfl
    · rfl
    · refine Fin.ext ?_
      show 1 + ((⟨p.val, h⟩ : Fin 3).rev).val = Blur.refl p.val
      rw [Fin.val_rev]
      unfold Blur.refl
      rw [if_pos h]
      show 1 + (3 - (p.val + 1)) = 3 - p.val
      omega
    · rfl
  · refine (concatenate_pair_apply_right (t := S4x96x227x224) (s₁ := S4x96x3x224) (s₂ := S4x96x224x224) 2 _ _
      concatenates_S4x96x3x224_S4x96x224x224_S4x96x227x224_d2 (ix4 b d p q) rfl rfl (ix4 b d (⟨p.val - 3, by omega⟩ : Fin 224) q)
      (by intro a ha; fin_cases a; exacts [rfl, rfl, absurd rfl ha, rfl])
      (by show p.val - 3 + 3 = p.val; omega)).trans (congrArg x ?_)
    funext a
    fin_cases a
    · rfl
    · rfl
    · refine Fin.ext ?_
      show p.val - 3 = Blur.refl p.val
      unfold Blur.refl
      rw [if_neg h, if_pos hp]
    · rfl

/-- The batch with three reflected rows on top and three below. -/
theorem rows_apply (b : Fin 4) (d : Fin 96) (p : Fin 230) (q : Fin 224) :
    val_main_call0_v7 x (ix4 b d p q : S4x96x230x224.Idx) = x (ix4 b d (at' p p.isLt) q : S4x96x224x224.Idx) := by
  have hp := p.isLt
  unfold val_main_call0_v7
  by_cases h : p.val < 227
  · refine (concatenate_pair_apply_left (t := S4x96x230x224) (s₁ := S4x96x227x224) (s₂ := S4x96x3x224) 2 _ _
      concatenates_S4x96x227x224_S4x96x3x224_S4x96x230x224_d2 (ix4 b d p q) rfl (ix4 b d (⟨p.val, h⟩ : Fin 227) q)
      (by intro a; fin_cases a <;> rfl)).trans (top_apply x b d ⟨p.val, h⟩ q)
  · refine (concatenate_pair_apply_right (t := S4x96x230x224) (s₁ := S4x96x227x224) (s₂ := S4x96x3x224) 2 _ _
      concatenates_S4x96x227x224_S4x96x3x224_S4x96x230x224_d2 (ix4 b d p q) rfl rfl (ix4 b d (⟨p.val - 227, by omega⟩ : Fin 3) q)
      (by intro a ha; fin_cases a; exacts [rfl, rfl, absurd rfl ha, rfl])
      (by show p.val - 227 + 227 = p.val; omega)).trans ?_
    refine (rev_rows (val_main_call0_v5 x) b d _ q).trans ?_
    refine ((val_main_call0_v5_apply x _).trans (congrArg (val_main_call0_v3 x) (?_ : _ = (ix4 b d (⟨452 - p.val, by omega⟩ : Fin 227) q : S4x96x227x224.Idx)))).trans
      ((top_apply x b d ⟨452 - p.val, by omega⟩ q).trans (congrArg x ?_))
    · funext a
      fin_cases a
      · rfl
      · rfl
      · refine Fin.ext ?_
        show 223 + ((⟨p.val - 227, by omega⟩ : Fin 3).rev).val = 452 - p.val
        rw [Fin.val_rev]
        show 223 + (3 - (p.val - 227 + 1)) = 452 - p.val
        omega
      · rfl
    · refine congrArg (fun r => (ix4 b d r q : S4x96x224x224.Idx)) (Fin.ext ?_)
      show Blur.refl (452 - p.val) = Blur.refl p.val
      unfold Blur.refl
      split_ifs <;> omega

/-- The batch with its rows reflected and three reflected columns on the left. -/
theorem left_apply (b : Fin 4) (d : Fin 96) (p : Fin 230) (q : Fin 227) :
    val_main_call0_v11 x (ix4 b d p q : S4x96x230x227.Idx)
      = x (ix4 b d (at' p p.isLt) (at' q (by omega)) : S4x96x224x224.Idx) := by
  have hq := q.isLt
  unfold val_main_call0_v11
  by_cases h : q.val < 3
  · refine (concatenate_pair_apply_left (t := S4x96x230x227) (s₁ := S4x96x230x3) (s₂ := S4x96x230x224) 3 _ _
      concatenates_S4x96x230x3_S4x96x230x224_S4x96x230x227_d3 (ix4 b d p q) rfl (ix4 b d p (⟨q.val, h⟩ : Fin 3))
      (by intro a; fin_cases a <;> rfl)).trans ?_
    refine (rev_cols (val_main_call0_v9 x) b d p _).trans ?_
    refine ((val_main_call0_v9_apply x _).trans (congrArg (val_main_call0_v7 x) (?_ : _ = (ix4 b d p (at' q (by omega)) : S4x96x230x224.Idx)))).trans
      (rows_apply x b d p _)
    funext a
    fin_cases a
    · rfl
    · rfl
    · rfl
    · refine Fin.ext ?_
      show 1 + ((⟨q.val, h⟩ : Fin 3).rev).val = Blur.refl q.val
      rw [Fin.val_rev]
      unfold Blur.refl
      rw [if_pos h]
      show 1 + (3 - (q.val + 1)) = 3 - q.val
      omega
  · refine (concatenate_pair_apply_right (t := S4x96x230x227) (s₁ := S4x96x230x3) (s₂ := S4x96x230x224) 3 _ _
      concatenates_S4x96x230x3_S4x96x230x224_S4x96x230x227_d3 (ix4 b d p q) rfl rfl (ix4 b d p (⟨q.val - 3, by omega⟩ : Fin 224))
      (by intro a ha; fin_cases a; exacts [rfl, rfl, rfl, absurd rfl ha])
      (by show q.val - 3 + 3 = q.val; omega)).trans ((rows_apply x b d p _).trans (congrArg x ?_))
    refine congrArg (fun r => (ix4 b d (at' p p.isLt) r : S4x96x224x224.Idx)) (Fin.ext ?_)
    show q.val - 3 = Blur.refl q.val
    unfold Blur.refl
    rw [if_neg h, if_pos hq]

/-- The padded batch. -/
theorem pad_apply (b : Fin 4) (d : Fin 96) (p q : Fin 230) :
    val_main_v0 x (ix4 b d p q : S4x96x230x230.Idx)
      = x (ix4 b d (at' p p.isLt) (at' q q.isLt) : S4x96x224x224.Idx) := by
  have hq := q.isLt
  unfold val_main_v0
  by_cases h : q.val < 227
  · refine (concatenate_pair_apply_left (t := S4x96x230x230) (s₁ := S4x96x230x227) (s₂ := S4x96x230x3) 3 _ _
      concatenates_S4x96x230x227_S4x96x230x3_S4x96x230x230_d3 (ix4 b d p q) rfl (ix4 b d p (⟨q.val, h⟩ : Fin 227))
      (by intro a; fin_cases a <;> rfl)).trans (left_apply x b d p ⟨q.val, h⟩)
  · refine (concatenate_pair_apply_right (t := S4x96x230x230) (s₁ := S4x96x230x227) (s₂ := S4x96x230x3) 3 _ _
      concatenates_S4x96x230x227_S4x96x230x3_S4x96x230x230_d3 (ix4 b d p q) rfl rfl (ix4 b d p (⟨q.val - 227, by omega⟩ : Fin 3))
      (by intro a ha; fin_cases a; exacts [rfl, rfl, rfl, absurd rfl ha])
      (by show q.val - 227 + 227 = q.val; omega)).trans ?_
    refine (rev_cols (val_main_call0_v13 x) b d p _).trans ?_
    refine ((val_main_call0_v13_apply x _).trans (congrArg (val_main_call0_v11 x) (?_ : _ = (ix4 b d p (⟨452 - q.val, by omega⟩ : Fin 227) : S4x96x230x227.Idx)))).trans
      ((left_apply x b d p ⟨452 - q.val, by omega⟩).trans (congrArg x ?_))
    · funext a
      fin_cases a
      · rfl
      · rfl
      · rfl
      · refine Fin.ext ?_
        show 223 + ((⟨q.val - 227, by omega⟩ : Fin 3).rev).val = 452 - q.val
        rw [Fin.val_rev]
        show 223 + (3 - (q.val - 227 + 1)) = 452 - q.val
        omega
    · refine congrArg (fun r => (ix4 b d (at' p p.isLt) r : S4x96x224x224.Idx)) (Fin.ext ?_)
      show Blur.refl (452 - q.val) = Blur.refl q.val
      unfold Blur.refl
      split_ifs <;> omega

end Cert.RPad
-- ==== Proof.RTaps.lean ====
/-
  The reference's blur: forty-nine weighted shifts of the padded batch, read at an index.
-/
module

public import proofs.«01_k».proof.Proof.RPad
public import proofs.«01_k».proof.Proof.Loss

@[expose] public section

noncomputable section

namespace Cert.RTaps

open Idealize.ShloMosaic Idealize.ShloMosaic.ValueIdx
open Cert.ReferenceIdeal Cert.ReferenceIdeal.Gen Cert.ReferenceIdeal.Read

/-- The first and last row of the printed weights. -/
def row0 : Fin 7 → BitVec 32 := ![0x39800000#32, 0x3AC00000#32, 0x3B700000#32, 0x3BA00000#32, 0x3B700000#32, 0x3AC00000#32, 0x39800000#32]
/-- The second and sixth row. -/
def row1 : Fin 7 → BitVec 32 := ![0x3AC00000#32, 0x3C100000#32, 0x3CB40000#32, 0x3CF00000#32, 0x3CB40000#32, 0x3C100000#32, 0x3AC00000#32]
/-- The third and fifth row. -/
def row2 : Fin 7 → BitVec 32 := ![0x3B700000#32, 0x3CB40000#32, 0x3D610000#32, 0x3D960000#32, 0x3D610000#32, 0x3CB40000#32, 0x3B700000#32]
/-- The middle row. -/
def row3 : Fin 7 → BitVec 32 := ![0x3BA00000#32, 0x3CF00000#32, 0x3D960000#32, 0x3DC80000#32, 0x3D960000#32, 0x3CF00000#32, 0x3BA00000#32]
/-- The printed weights. -/
def word : Fin 7 → Fin 7 → BitVec 32 := ![row0, row1, row2, row3, row2, row1, row0]

/-- Each printed weight is the product of its two taps. -/
theorem word_value (r s : Fin 7) :
    Ideal.ofBits .f32 (word r s) = ((((Blur.tap r : ℝ) / 64) * ((Blur.tap s : ℝ) / 64) : ℝ) : EReal) := by
  fin_cases r <;> fin_cases s <;>
    (simp [word, row0, row1, row2, row3, Blur.tap, Ideal.ofBits, Ideal.ieee]; rw [← EReal.coe_mul]; norm_num; rw [← EReal.coe_mul]; norm_num)

/-- Every shift lands inside the padded batch. -/
theorem slices (r s : Fin 7) :
    S4x96x230x230.SlicesBy (![0, 0, r.val, s.val] : Fin 4 → Nat) ![1, 1, 2, 2] S4x96x112x112 := by
  revert r s
  decide

variable (P : FVec Ideal S4x96x230x230 .f32)

/-- One weighted shift. -/
def shift (r s : Fin 7) : FVec Ideal S4x96x112x112 .f32 :=
  mulf (broadcastInDim S4x96x112x112 ![] bcast_S_S4x96x112x112 (constant (F := Ideal) S_ .f32 (word r s)))
    (Host.slice S4x96x112x112 ![0, 0, r.val, s.val] ![1, 1, 2, 2] P (slices r s))

/-- The first `n` of the forty-nine shifts added up in the printed order. -/
def sums : ℕ → FVec Ideal S4x96x112x112 .f32
  | 0 => broadcastInDim S4x96x112x112 ![] bcast_S_S4x96x112x112 (constant (F := Ideal) S_ .f32 0x00000000#32)
  | n + 1 => addf (sums n) (shift P ⟨n / 7 % 7, Nat.mod_lt _ (by decide)⟩ ⟨n % 7, Nat.mod_lt _ (by decide)⟩)

/-- The printed blur is the forty-nine shifts added up. -/
theorem printed (x : (⟨S4x96x224x224, .f32⟩ : BufTy).Contents (Elt Ideal)) : val_main_v197 x = sums (val_main_v0 x) 49 := rfl

/-- A weighted shift at an index. -/
theorem shift_apply (r s : Fin 7) (b : Fin 4) (d : Fin 96) (h w : Fin 112) :
    shift P r s (ix4 b d h w : S4x96x112x112.Idx)
      = ((((Blur.tap r : ℝ) / 64) * ((Blur.tap s : ℝ) / 64) : ℝ) : EReal)
        * P (ix4 b d (⟨2 * h.val + r.val, by omega⟩ : Fin 230) (⟨2 * w.val + s.val, by omega⟩ : Fin 230) : S4x96x230x230.Idx) := by
  unfold shift
  refine congrArg₂ (· * ·) ?_ (congrArg P ?_)
  · exact word_value r s
  · funext a
    refine Fin.ext ?_
    fin_cases a
    · show 0 + 1 * b.val = b.val; omega
    · show 0 + 1 * d.val = d.val; omega
    · show r.val + 2 * h.val = 2 * h.val + r.val; omega
    · show s.val + 2 * w.val = 2 * w.val + s.val; omega

/-- A sum over `a · m` positions, row by row. -/
theorem sum_rows (a : ℕ) (ha : 0 < a) (f : ℕ → ℕ → EReal) (m : ℕ) :
    ∑ n ∈ Finset.range (a * m), f (n / a) (n % a) = ∑ r ∈ Finset.range m, ∑ s ∈ Finset.range a, f r s := by
  induction m with
  | zero => rfl
  | succ m ih =>
    rw [Nat.mul_succ, Finset.sum_range_add (fun n => f (n / a) (n % a)), ih, Finset.sum_range_succ]
    refine congrArg (_ + ·) ?_
    refine Finset.sum_congr rfl fun s hs => ?_
    have := Finset.mem_range.1 hs
    rw [Nat.mul_add_div ha, Nat.mul_add_mod, Nat.div_eq_of_lt this, Nat.mod_eq_of_lt this, Nat.add_zero]

/-- The reference's blurred batch is the blur of the images. -/
theorem blur_apply (x : (⟨S4x96x224x224, .f32⟩ : BufTy).Contents (Elt Ideal)) (X : ℕ → ℕ → ℕ → ℕ → ℝ)
    (hx : ∀ (b : Fin 4) (d : Fin 96) (p q : Fin 224), x (ix4 b d p q : S4x96x224x224.Idx) = (X b d p q : EReal))
    (b : Fin 4) (d : Fin 96) (h w : Fin 112) :
    val_main_v197 x (ix4 b d h w : S4x96x112x112.Idx) = (Blur.blur (X b d) h w : EReal) := by
  let f : ℕ → ℕ → EReal := fun r s =>
    if hr : r < 7 then if hs : s < 7 then shift (val_main_v0 x) ⟨r, hr⟩ ⟨s, hs⟩ (ix4 b d h w : S4x96x112x112.Idx) else 0 else 0
  have hsum : ∀ n, n ≤ 49 → sums (val_main_v0 x) n (ix4 b d h w : S4x96x112x112.Idx) = ∑ i ∈ Finset.range n, f (i / 7) (i % 7) := by
    intro n
    induction n with
    | zero => intro _; exact Ideal.ofBits_zero_f32
    | succ n ih =>
      intro hn
      rw [Finset.sum_range_succ, ← ih (by omega)]
      refine congrArg (sums (val_main_v0 x) n (ix4 b d h w : S4x96x112x112.Idx) + ·) ?_
      have h1 : n / 7 < 7 := by omega
      have h2 : n % 7 < 7 := by omega
      show shift _ _ _ _ = dite _ _ _
      rw [dif_pos h1, dif_pos h2]
      have e : (⟨n / 7 % 7, Nat.mod_lt _ (by decide)⟩ : Fin 7) = ⟨n / 7, h1⟩ := Fin.ext (Nat.mod_eq_of_lt h1)
      rw [e]
  rw [printed, hsum 49 le_rfl, show (49 : ℕ) = 7 * 7 from rfl, sum_rows 7 (by decide) f, Finset.sum_range]
  unfold Blur.blur
  rw [Loss.coe_sum]
  refine Finset.sum_congr rfl fun r _ => ?_
  rw [Finset.sum_range, Loss.coe_sum]
  refine Finset.sum_congr rfl fun s _ => ?_
  show dite _ _ _ = _
  rw [dif_pos r.isLt, dif_pos s.isLt, shift_apply, RPad.pad_apply, hx, EReal.coe_mul]
  rfl

end Cert.RTaps
-- ==== Proof.RRow.lean ====
/-
  The reference's one-hot rows of the blurred values.
-/
module

public import proofs.«01_k».proof.Proof.RTaps
public import proofs.«01_k».proof.Proof.KVal

@[expose] public section

noncomputable section

namespace Cert.RRow

open Idealize.ShloMosaic Idealize.ShloMosaic.ValueIdx
open Cert.ReferenceIdeal Cert.ReferenceIdeal.Gen Cert.ReferenceIdeal.Read

/-- The word of twenty-five. -/
theorem word_25 : Ideal.ofBits .f32 0x41C80000#32 = ((25 : ℝ) : EReal) := by
  simp [Ideal.ofBits, Ideal.ieee]
  rw [← EReal.coe_mul]
  norm_num

/-- A level as a word, clipped to the last bin. -/
theorem clip (n : ℕ) (hn : n ≤ 25) :
    IntOp.minsi (24#32) (IntOp.maxsi (0#32) ((n : ℕ) : BitVec 32)) = BitVec.ofNat 32 (min n 24) := by
  revert hn
  revert n
  decide

/-- Two small words are equal when the numbers are. -/
theorem same (n k : ℕ) (hn : n < 25) (hk : k < 25) : (BitVec.ofNat 32 n == BitVec.ofNat 32 k) = decide (n = k) := by
  revert hk
  revert k
  revert hn
  revert n
  decide

/-- One entry of the one-hot rows, for a value between zero and one. -/
theorem one_hot (r : ℝ) (h0 : 0 ≤ r) (h1 : r ≤ 1) (n : ℕ) (hn : ⌊r * 25⌋ = (n : ℤ)) (hn' : n ≤ 25) (k : ℕ) (hk : k < 25) :
    Scalar.select (IntOp.cmpi .eq (IntOp.minsi (24#32) (IntOp.maxsi (0#32)
        (Ideal.fptosi 32 (Ideal.liftRound Int.floor ((r : EReal) * Ideal.ofBits .f32 0x41C80000#32)))))
        (BitVec.ofNat 32 k))
      (((IntOp.andi (Ideal.cmp .oge (r : EReal) (Ideal.ofBits .f32 0x00000000#32))
        (Ideal.cmp .ole (r : EReal) (Ideal.ofBits .f32 0x3F800000#32))).toNat : ℝ) : EReal) (Ideal.ofBits .f32 0x00000000#32)
      = (((if min n 24 = k then 1 else 0 : ℕ) : ℝ) : EReal) := by
  have e0 : Ideal.cmp .oge (r : EReal) (Ideal.ofBits .f32 0x00000000#32) = 1#1 := by
    rw [Ideal.ofBits_zero_f32]
    show BitVec.ofBool (decide ((0 : EReal) ≤ (r : EReal))) = 1#1
    rw [decide_eq_true (by exact_mod_cast h0)]
    rfl
  have e1 : Ideal.cmp .ole (r : EReal) (Ideal.ofBits .f32 0x3F800000#32) = 1#1 := by
    rw [KVal.word_one]
    show BitVec.ofBool (decide ((r : EReal) ≤ ((1 : ℝ) : EReal))) = 1#1
    rw [decide_eq_true (by exact_mod_cast h1)]
    rfl
  rw [e0, e1, word_25, ← EReal.coe_mul, Ideal.liftRound_coe, hn, Int.cast_natCast, Hist.toWord n (by omega), clip n hn',
    Ideal.ofBits_zero_f32]
  show (if BitVec.ofBool (BitVec.ofNat 32 (min n 24) == BitVec.ofNat 32 k) = 1#1 then _ else _) = _
  rw [same _ _ (by omega) hk]
  by_cases h : min n 24 = k
  · rw [decide_eq_true h, if_pos h, if_pos (show BitVec.ofBool true = 1#1 from rfl)]
    norm_num
    rfl
  · rw [decide_eq_false h, if_neg h, if_neg (show ¬ BitVec.ofBool false = 1#1 by decide)]
    norm_num

variable (x : (⟨S4x96x224x224, .f32⟩ : BufTy).Contents (Elt Ideal)) (X : ℕ → ℕ → ℕ → ℕ → ℝ)
  (hx : ∀ (b : Fin 4) (d : Fin 96) (p q : Fin 224), x (ix4 b d p q : S4x96x224x224.Idx) = (X b d p q : EReal))

include hx

/-- The flattened blur. -/
theorem flat_apply (b : Fin 4) (i : Fin 1204224) :
    val_main_v396 x (ix2 b i : S4x1204224.Idx) = (Blur.blur (X b (i.val / 12544)) (i.val / 112 % 112) (i.val % 112) : EReal) := by
  have hi := i.isLt
  refine (val_main_v396_apply x _).trans ?_
  refine Eq.trans (congrArg (val_main_v197 x) ?_)
    (RTaps.blur_apply x X hx b ⟨i.val / 12544, by omega⟩ ⟨i.val / 112 % 112, by omega⟩ ⟨i.val % 112, by omega⟩)
  funext a
  refine Fin.ext ?_
  fin_cases a
  · show (b.val * 1204224 + i.val) / 1204224 = b.val
    omega
  · show (b.val * 1204224 + i.val) / 12544 % 96 = i.val / 12544
    omega
  · show (b.val * 1204224 + i.val) / 112 % 112 = i.val / 112 % 112
    omega
  · show (b.val * 1204224 + i.val) % 112 = i.val % 112
    omega

variable (h0 : ∀ b d p q, 0 ≤ X b d p q) (h1 : ∀ b d p q, X b d p q ≤ 1)

include h0 h1

/-- An entry of the one-hot rows. -/
theorem row_apply (b : Fin 4) (i : Fin 1204224) (k : Fin 25) :
    val_main_v415 x (ix3 b i k : S4x1204224x25.Idx)
      = (((if min (Blur.level (X b (i.val / 12544)) (i.val / 112 % 112) (i.val % 112)) 24 = k.val then 1 else 0 : ℕ) : ℝ) : EReal) := by
  have e := flat_apply x X hx b i
  have t := one_hot _ (Blur.blur_nonneg (X b (i.val / 12544)) (h0 b _) (i.val / 112 % 112) (i.val % 112))
    (Blur.blur_le_one (X b (i.val / 12544)) (h1 b _) (i.val / 112 % 112) (i.val % 112)) _
    (Blur.floor_eq_level (X b (i.val / 12544)) (h0 b _) (i.val / 112 % 112) (i.val % 112))
    (Blur.level_le (X b (i.val / 12544)) (h1 b _) (i.val / 112 % 112) (i.val % 112)) k.val k.isLt
  have j1 : idx_main_v408 (idx_main_v411 (ix3 b i k : S4x1204224x25.Idx)) = ix2 b i := by
    funext a
    fin_cases a <;> rfl
  have j2 : idx_main_v414 (idx_main_call3_v1 (ix3 b i k : S4x1204224x25.Idx)) = ix2 b i := by
    funext a
    fin_cases a <;> rfl
  simp only [val_main_v415_apply, val_main_v413_apply, val_main_v411_apply, val_main_v412_apply, val_main_v410_apply,
    val_main_v409_apply, val_main_v408_apply, val_main_v407_apply, val_main_call2_v4_apply, val_main_call2_v3_apply,
    val_main_c_104_apply, val_main_call2_v2_apply, val_main_call2_v1_apply, val_main_call2_v0_apply, val_main_c_103_apply,
    val_main_v406_apply, val_main_v405_apply, val_main_v404_apply, val_main_v403_apply, val_main_cst_102_apply,
    val_main_call3_v1_apply, val_main_v414_apply, val_main_v402_apply, val_main_v401_apply, val_main_v400_apply,
    val_main_v399_apply, val_main_v398_apply, val_main_v397_apply, val_main_cst_101_apply, val_main_cst_100_apply,
    val_main_call3_v2_apply, val_main_call3_v0_apply, val_main_cst_105_apply]
  rw [j1, j2, e]
  exact t

end Cert.RRow
-- ==== Proof.RHist.lean ====
/-
  The reference's histogram: its one-hot rows added up over the pixels of a batch position.
-/
module

public import proofs.«01_k».proof.Proof.RRow

@[expose] public section

noncomputable section

namespace Cert.RHist

open Idealize.ShloMosaic Idealize.ShloMosaic.ValueIdx
open Cert.ReferenceIdeal Cert.ReferenceIdeal.Gen Cert.ReferenceIdeal.Read

variable (x : (⟨S4x96x224x224, .f32⟩ : BufTy).Contents (Elt Ideal)) (X : ℕ → ℕ → ℕ → ℕ → ℝ)
  (hx : ∀ (b : Fin 4) (d : Fin 96) (p q : Fin 224), x (ix4 b d p q : S4x96x224x224.Idx) = (X b d p q : EReal))

include hx

variable (h0 : ∀ b d p q, 0 ≤ X b d p q) (h1 : ∀ b d p q, X b d p q ≤ 1)

include h0 h1

/-- The reference's histogram counts the pixels of each bin. -/
theorem hist_apply (b : Fin 4) (k : Fin 25) :
    val_main_v416 x (ix2 b k : S4x25.Idx) = (KVal.counts X b k : EReal) := by
  refine (val_main_v416_apply x _).trans ?_
  let f : ℕ → ℕ → EReal := fun d n =>
    (((if min (Blur.level (X b d) (n / 112) (n % 112)) 24 = k.val then 1 else 0 : ℕ) : ℝ) : EReal)
  have hrow : ∀ i : Fin 1204224, val_main_v415 x (idx_main_v416 (ix2 b k : S4x25.Idx) i) = f (i.val / 12544) (i.val % 12544) := by
    intro i
    refine Eq.trans (congrArg (val_main_v415 x) ?_) ((RRow.row_apply x X hx h0 h1 b i k).trans ?_)
    · funext a
      fin_cases a <;> rfl
    · show _ = (((if min (Blur.level (X b (i.val / 12544)) (i.val % 12544 / 112) (i.val % 12544 % 112)) 24 = k.val then 1 else 0 : ℕ) : ℝ) : EReal)
      rw [show i.val % 12544 / 112 = i.val / 112 % 112 by omega, show i.val % 12544 % 112 = i.val % 112 by omega]
  rw [Finset.sum_congr rfl fun i _ => hrow i, Fin.sum_univ_eq_sum_range (fun i => f (i / 12544) (i % 12544)) 1204224,
    show (1204224 : ℕ) = 12544 * 96 from rfl, RTaps.sum_rows 12544 (by norm_num) f]
  have hin : ∀ d, ∑ n ∈ Finset.range 12544, f d n = ∑ h ∈ Finset.range 112, ∑ w ∈ Finset.range 112,
      (((if min (Blur.level (X b d) h w) 24 = k.val then 1 else 0 : ℕ) : ℝ) : EReal) := by
    intro d
    rw [show (12544 : ℕ) = 112 * 112 from rfl]
    exact RTaps.sum_rows 112 (by norm_num)
      (fun h w => (((if min (Blur.level (X b d) h w) 24 = k.val then 1 else 0 : ℕ) : ℝ) : EReal)) 112
  rw [Finset.sum_congr rfl fun d _ => hin d]
  have hz : val_main_cst_106 (F := Ideal) (Shape.Idx.first h_S_) = 0 := Ideal.ofBits_zero_f32
  rw [hz, zero_add]
  unfold KVal.counts Levels.bin
  rw [Fintype.sum_prod_type, Nat.cast_sum, Loss.coe_sum, Finset.sum_range]
  refine Finset.sum_congr rfl fun d _ => ?_
  rw [Fintype.sum_prod_type, Nat.cast_sum, Loss.coe_sum, Finset.sum_range]
  refine Finset.sum_congr rfl fun h _ => ?_
  rw [Nat.cast_sum, Loss.coe_sum, Finset.sum_range]

end Cert.RHist
-- ==== Proof.RSeg.lean ====
/-
  The reference's segments: the running sums of the histograms, the two gathered rows, and their masked difference.
-/
module

public import proofs.«01_k».proof.Proof.Gen.ReferenceIdeal.Read
public import proofs.«01_k».proof.Proof.Loss
public import Idealize.ShloMosaic.Lib.ValueIdx

@[expose] public section

noncomputable section

namespace Cert.RSeg

open Idealize.ShloMosaic Idealize.ShloMosaic.ValueIdx
open Cert.ReferenceIdeal Cert.ReferenceIdeal.Gen Cert.ReferenceIdeal.Read

/-- Adding up a list from the left. -/
theorem foldl_add {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

/-- Where a window position of entry `(i, k)` falls. -/
def spot (i : Fin 4) (k : Fin 25) (n : (⟨2, ![4, 1]⟩ : Shape).Idx) (a : Fin 2) : ℕ :=
  ((ix2 i k : S4x25.Idx) a).val * (![1, 1] : Fin 2 → ℕ) a + (n a).val

/-- The value at a window position. -/
def seen (y : S4x25.Idx → EReal) (i : Fin 4) (k : Fin 25) (n : (⟨2, ![4, 1]⟩ : Shape).Idx) : EReal :=
  if h : ∀ a : Fin 2, (![3, 0] : Fin 2 → ℕ) a ≤ spot i k n a ∧ spot i k n a - (![3, 0] : Fin 2 → ℕ) a < S4x25.size a then
    y (fun a => ⟨spot i k n a - (![3, 0] : Fin 2 → ℕ) a, (h a).2⟩) else 0

/-- A window position above the first row holds nothing; any other holds a row of the histogram. -/
theorem seen_apply (y : S4x25.Idx → EReal) (i : Fin 4) (k : Fin 25) (n : Fin 4) :
    seen y i k (ix2 n (0 : Fin 1)) = if 3 ≤ i.val + n.val then y (ix2 (⟨i.val + n.val - 3, by omega⟩ : Fin 4) k) else 0 := by
  have hk := k.isLt
  unfold seen
  by_cases h : 3 ≤ i.val + n.val
  · rw [if_pos h, dif_pos]
    · refine congrArg y (funext fun a => Fin.ext ?_)
      fin_cases a
      · show i.val * 1 + n.val - 3 = i.val + n.val - 3
        omega
      · show k.val * 1 + 0 - 0 = k.val
        omega
    · intro a
      fin_cases a
      · show 3 ≤ i.val * 1 + n.val ∧ i.val * 1 + n.val - 3 < 4
        omega
      · show 0 ≤ k.val * 1 + 0 ∧ k.val * 1 + 0 - 0 < 25
        omega
  · rw [if_neg h, dif_neg]
    intro hall
    have : 3 ≤ i.val * 1 + n.val := (hall 0).1
    omega

/-- The running sum down the rows. -/
theorem window_apply (y : S4x25.Idx → EReal) (i : Fin 4) (k : Fin 25) :
    Ideal.hostReduceWindowAdd ![4, 1] ![1, 1] ![3, 0] ![0, 0] reduceWindows_S4x25_S4x25_w4s1p3_0_w1s1p0_0 y 0 (ix2 i k : S4x25.Idx)
      = ∑ r : Fin 4, if r.val ≤ i.val then y (ix2 r k) else 0 := by
  have e : Ideal.hostReduceWindowAdd ![4, 1] ![1, 1] ![3, 0] ![0, 0] reduceWindows_S4x25_S4x25_w4s1p3_0_w1s1p0_0 y 0 (ix2 i k : S4x25.Idx)
      = (List.finRange (⟨2, ![4, 1]⟩ : Shape).numel).foldl
          (fun r n => r + seen y i k ((⟨2, ![4, 1]⟩ : Shape).rowMajor.symm n)) 0 := by
    unfold Ideal.hostReduceWindowAdd Host.reduceWindow
    refine congrArg (fun g => List.foldl g (0 : EReal) (List.finRange (⟨2, ![4, 1]⟩ : Shape).numel))
      (funext fun r => funext fun n => congrArg (r + ·) ?_)
    by_cases h : ∀ a : Fin 2, (![3, 0] : Fin 2 → ℕ) a ≤ spot i k ((⟨2, ![4, 1]⟩ : Shape).rowMajor.symm n) a
        ∧ spot i k ((⟨2, ![4, 1]⟩ : Shape).rowMajor.symm n) a - (![3, 0] : Fin 2 → ℕ) a < S4x25.size a
    · refine (dif_pos h).trans ?_
      unfold seen
      rw [dif_pos h]
      rfl
    · refine (dif_neg h).trans ?_
      unfold seen
      rw [dif_neg h]
  rw [e, foldl_add, zero_add, ← Fin.sum_univ_def, Equiv.sum_comp (⟨2, ![4, 1]⟩ : Shape).rowMajor.symm (seen y i k), sum_idx2]
  have e2 : ∀ n : Fin 4, ∑ z : Fin 1, seen y i k (ix2 n z)
      = if 3 ≤ i.val + n.val then y (ix2 (⟨i.val + n.val - 3, by omega⟩ : Fin 4) k) else 0 := fun n => by
    rw [Fin.sum_univ_one]
    exact seen_apply y i k n
  rw [Finset.sum_congr rfl fun n _ => e2 n]
  fin_cases i <;> simp [Fin.sum_univ_four]

section Gather

variable {N C R B w : ℕ}

/-- Taking whole rows of a table, one for each entry of a matrix of row numbers. -/
abbrev rowsDims (N C R B : ℕ)
    (wf : GatherDims.WF ⟨2, ![N, C]⟩ ⟨3, ![R, B, 1]⟩ ⟨3, ![R, B, C]⟩ [2] [0] [] [0] [] 2 ![1, C]) :
    GatherDims ⟨2, ![N, C]⟩ ⟨3, ![R, B, 1]⟩ ⟨3, ![R, B, C]⟩ where
  offsetDims := [2]
  collapsedSliceDims := [0]
  operandBatchingDims := []
  startIndicesBatchingDims := []
  startIndexMap := [0]
  indexVectorDim := 2
  sliceSizes := ![1, C]
  wf := wf

/-- Entry `(r, j, k)` of the taken rows is entry `k` of the row named at `(r, j)`. -/
theorem rows_apply (hN : 0 < N)
    (wf : GatherDims.WF ⟨2, ![N, C]⟩ ⟨3, ![R, B, 1]⟩ ⟨3, ![R, B, C]⟩ [2] [0] [] [0] [] 2 ![1, C])
    (x : (⟨2, ![N, C]⟩ : Shape).Idx → EReal) (idx : IVec ⟨3, ![R, B, 1]⟩ w) (r : Fin R) (j : Fin B) (k : Fin C) (m : Fin N)
    (hm : (idx (ix3 r j (0 : Fin 1))).toInt.toNat = m.val) :
    Host.gather (rowsDims N C R B wf) x idx (ix3 r j k) = x (ix2 m k) := by
  unfold Host.gather
  refine congrArg x (funext fun a => Fin.ext ?_)
  show (rowsDims N C R B wf).start (ix3 r j k) idx a + (rowsDims N C R B wf).batchCoord (ix3 r j k) a
    + (rowsDims N C R B wf).offCoord (ix3 r j k) a = _
  rw [GatherDims.batchCoord_eq_zero _ _ _ List.not_mem_nil]
  fin_cases a
  · have h0 : (0 : Fin 2) ∈ (rowsDims N C R B wf).startIndexMap := List.mem_singleton.mpr rfl
    have hsi : (rowsDims N C R B wf).siIdx (ix3 r j k) ⟨List.idxOf (0 : Fin 2) (rowsDims N C R B wf).startIndexMap,
        List.idxOf_lt_length_iff.2 h0⟩ = (ix3 r j (0 : Fin 1) : (⟨3, ![R, B, 1]⟩ : Shape).Idx) := by
      funext b
      refine Fin.ext ?_
      match b with
      | ⟨0, _⟩ => rfl
      | ⟨1, _⟩ => rfl
      | ⟨2, _⟩ => rfl
    show (rowsDims N C R B wf).start (ix3 r j k) idx 0 + 0 + (rowsDims N C R B wf).offCoord (ix3 r j k) 0 = m.val
    rw [GatherDims.offCoord_eq_zero _ _ _ (fun h => ((GatherDims.mem_sKept _ _).mp h).1 (List.mem_singleton.mpr rfl))]
    unfold GatherDims.start
    rw [dif_pos h0, hsi, hm]
    show min m.val (N - 1) + 0 + 0 = m.val
    have := m.isLt
    omega
  · have h1 : (1 : Fin 2) ∉ (rowsDims N C R B wf).startIndexMap := by
      show (1 : Fin 2) ∉ [(0 : Fin 2)]
      decide
    show (rowsDims N C R B wf).start (ix3 r j k) idx 1 + 0 + (rowsDims N C R B wf).offCoord (ix3 r j k) 1 = k.val
    unfold GatherDims.start
    rw [dif_neg h1, Nat.zero_add]
    rfl

end Gather

/-- The channel's row number is the channel, at most four. -/
theorem ends (j : Fin 96) :
    Scalar.select (IntOp.cmpi .slt (IntOp.minsi (BitVec.ofNat 32 j.val) (4#32)) (0#32))
      (IntOp.addi (IntOp.minsi (BitVec.ofNat 32 j.val) (4#32)) (5#32)) (IntOp.minsi (BitVec.ofNat 32 j.val) (4#32))
      = BitVec.ofNat 32 (min j.val 4) := by
  revert j
  decide

/-- The batch position's row number is the batch position. -/
theorem starts (b : Fin 4) :
    Scalar.select (IntOp.cmpi .slt (BitVec.ofNat 32 b.val) (0#32)) (IntOp.addi (BitVec.ofNat 32 b.val) (5#32)) (BitVec.ofNat 32 b.val)
      = BitVec.ofNat 32 b.val := by
  revert b
  decide

/-- The mask is one when the segment is not empty. -/
theorem mask (b : Fin 4) (j : Fin 96) :
    (IntOp.cmpi .sgt (IntOp.minsi (BitVec.ofNat 32 j.val) (4#32)) (BitVec.ofNat 32 b.val)).toNat = if b.val < min j.val 4 then 1 else 0 := by
  revert b j
  decide

/-- A small word read as a number. -/
theorem small (n : Fin 5) : (BitVec.ofNat 32 n.val).toInt.toNat = n.val := by
  revert n
  decide

/-- The word of the number of pixels in an image. -/
theorem word_size : Ideal.ofBits .f32 0x47440000#32 = ((50176 : ℝ) : EReal) := by
  simp [Ideal.ofBits, Ideal.ieee]
  rw [← EReal.coe_mul]
  norm_num

/-- The running sums as reals. -/
theorem run_real (H : ℕ → ℝ) (i : Fin 4) :
    (∑ r : Fin 4, if r.val ≤ i.val then ((H r.val : ℝ) : EReal) else 0) = ((∑ r ∈ Finset.range (i.val + 1), H r : ℝ) : EReal) := by
  fin_cases i <;> simp [Fin.sum_univ_four, Finset.sum_range_succ]

/-- A masked difference of running sums, divided by the size of an image, is a segment. -/
theorem segment (H : ℕ → Fin 25 → ℝ) (b m : ℕ) (k : Fin 25) :
    Ideal.div ((((∑ r ∈ Finset.range m, H r k : ℝ) : EReal) - ((∑ r ∈ Finset.range b, H r k : ℝ) : EReal))
        * (((if b < m then 1 else 0 : ℕ) : ℝ) : EReal)) (Ideal.ofBits .f32 0x47440000#32)
      = (((if b < m then Loss.seg H b m k else 0 : ℝ)) : EReal) := by
  rw [word_size, ← EReal.coe_sub, ← EReal.coe_mul, Loss.div_real _ _ (by norm_num)]
  refine congrArg _ ?_
  by_cases h : b < m
  · rw [if_pos h, if_pos h]
    unfold Loss.seg
    rw [Finset.sum_Ico_eq_sub _ h.le]
    push_cast
    ring
  · rw [if_neg h, if_neg h]
    norm_num

variable (x : (⟨S4x96x224x224, .f32⟩ : BufTy).Contents (Elt Ideal)) (H : ℕ → Fin 25 → ℝ)
  (hx : ∀ (b : Fin 4) (k : Fin 25), val_main_v416 x (ix2 b k : S4x25.Idx) = (H b k : EReal))

include hx

/-- The running sums of the histograms. -/
theorem run_apply (i : Fin 4) (k : Fin 25) :
    val_main_v439 x (ix2 i k : S4x25.Idx) = ((∑ r ∈ Finset.range (i.val + 1), H r k : ℝ) : EReal) := by
  have hz : val_main_call6_call0_v0 (F := Ideal) (Shape.Idx.first h_S_) = 0 :=
    (val_main_call6_call0_v0_apply _).trans Ideal.ofBits_zero_f32
  have e : val_main_v439 x (ix2 i k : S4x25.Idx) = Ideal.hostReduceWindowAdd ![4, 1] ![1, 1] ![3, 0] ![0, 0]
      reduceWindows_S4x25_S4x25_w4s1p3_0_w1s1p0_0 (val_main_v416 x) (val_main_call6_call0_v0 (F := Ideal) (Shape.Idx.first h_S_)) (ix2 i k : S4x25.Idx) := rfl
  rw [e, hz, window_apply, ← run_real (fun r => H r k)]
  exact Finset.sum_congr rfl fun r _ => by rw [hx]

/-- The running sums, with the empty one in front. -/
theorem sums_apply (e : Fin 5) (k : Fin 25) :
    val_main_v440 x (ix2 e k : S5x25.Idx) = ((∑ r ∈ Finset.range e.val, H r k : ℝ) : EReal) := by
  have he := e.isLt
  unfold val_main_v440
  by_cases h : e.val = 0
  · refine (concatenate_pair_apply_left (t := S5x25) (s₁ := S1x25) (s₂ := S4x25) 0 _ _
      concatenates_S1x25_S4x25_S5x25_d0 (ix2 e k) rfl (ix2 (0 : Fin 1) k) (by
        intro a
        fin_cases a
        · exact h.symm
        · rfl)).trans ?_
    rw [h]
    exact (val_main_v438_apply _).trans (Ideal.ofBits_zero_f32.trans (by simp))
  · refine (concatenate_pair_apply_right (t := S5x25) (s₁ := S1x25) (s₂ := S4x25) 0 _ _
      concatenates_S1x25_S4x25_S5x25_d0 (ix2 e k) rfl rfl (ix2 (⟨e.val - 1, by omega⟩ : Fin 4) k)
      (by intro a ha; fin_cases a; exacts [absurd rfl ha, rfl])
      (by show e.val - 1 + 1 = e.val; omega)).trans ((run_apply x H hx _ k).trans ?_)
    show ((∑ r ∈ Finset.range (e.val - 1 + 1), H r k : ℝ) : EReal) = _
    rw [Nat.sub_add_cancel (by omega)]

/-- The row of running sums a channel ends at. -/
theorem ends_apply (j : Fin 96) (k : Fin 25) :
    val_main_v460 x (ix3 (0 : Fin 1) j k : S1x96x25.Idx) = ((∑ r ∈ Finset.range (min j.val 4), H r k : ℝ) : EReal) := by
  refine Eq.trans (rows_apply (N := 5) (C := 25) (R := 1) (B := 96) (by decide) Facts₀.gather_S5x25_S1x96x1_S1x96x25_2_0_n_n_0_2_125_wf
    (val_main_v440 x) (val_main_v459 (F := Ideal)) 0 j k ⟨min j.val 4, by omega⟩ ?_) (sums_apply x H hx _ k)
  have e : val_main_v459 (F := Ideal) (ix3 (0 : Fin 1) j (0 : Fin 1) : S1x96x1.Idx) = BitVec.ofNat 32 (min j.val 4) := by
    rw [← ends j]
    simp only [val_main_v459_apply, val_main_v458_apply, val_main_v457_apply, val_main_v456_apply, val_main_c_118_apply,
      val_main_v455_apply, val_main_v454_apply, val_main_c_117_apply, val_main_v449_apply, val_main_v448_apply,
      val_main_c_116_apply, val_main_v447_apply, val_main_v446_apply]
  exact (congrArg (fun t : BitVec 32 => t.toInt.toNat) e).trans (small ⟨min j.val 4, by omega⟩)

/-- The row of running sums a batch position starts at. -/
theorem starts_apply (b : Fin 4) (k : Fin 25) :
    val_main_v467 x (ix3 b (0 : Fin 1) k : S4x1x25.Idx) = ((∑ r ∈ Finset.range b.val, H r k : ℝ) : EReal) := by
  refine Eq.trans (rows_apply (N := 5) (C := 25) (R := 4) (B := 1) (by decide) Facts₀.gather_S5x25_S4x1x1_S4x1x25_2_0_n_n_0_2_125_wf
    (val_main_v440 x) (val_main_v466 (F := Ideal)) b 0 k ⟨b.val, by omega⟩ ?_) (sums_apply x H hx _ k)
  have e : val_main_v466 (F := Ideal) (ix3 b (0 : Fin 1) (0 : Fin 1) : S4x1x1.Idx) = BitVec.ofNat 32 b.val := by
    rw [← starts b]
    simp only [val_main_v466_apply, val_main_v465_apply, val_main_v464_apply, val_main_v463_apply, val_main_c_120_apply,
      val_main_v462_apply, val_main_v461_apply, val_main_c_119_apply, val_main_v445_apply, val_main_v444_apply]
  exact (congrArg (fun t : BitVec 32 => t.toInt.toNat) e).trans (small ⟨b.val, by omega⟩)

/-- The segment a batch position and a channel name, or nothing when it is empty. -/
theorem seg_apply (b : Fin 4) (j : Fin 96) (k : Fin 25) :
    val_main_v475 x (ix3 b j k : S4x96x25.Idx)
      = (((if b.val < min j.val 4 then Loss.seg H b.val (min j.val 4) k else 0 : ℝ)) : EReal) := by
  have i1 : idx_main_v468 (ix3 b j k : S4x96x25.Idx) = ix3 (0 : Fin 1) j k := by
    funext a
    fin_cases a <;> rfl
  have i2 : idx_main_v469 (ix3 b j k : S4x96x25.Idx) = ix3 b (0 : Fin 1) k := by
    funext a
    fin_cases a <;> rfl
  rw [← segment, ← ends_apply x H hx j k, ← starts_apply x H hx b k, ← mask b j, ← i1, ← i2]
  simp only [val_main_v475_apply, val_main_v474_apply, val_main_cst_121_apply, val_main_v473_apply, val_main_v472_apply,
    val_main_v471_apply, val_main_v453_apply, val_main_v452_apply, val_main_v451_apply, val_main_v450_apply,
    val_main_v470_apply, val_main_v469_apply, val_main_v468_apply, val_main_v449_apply, val_main_v448_apply,
    val_main_c_116_apply, val_main_v447_apply, val_main_v446_apply, val_main_v445_apply, val_main_v444_apply]
  rfl

end Cert.RSeg
-- ==== Proof.RLoss.lean ====
/-
  The reference's value over images between zero and one: the mean cosine of the pairs of segments.
-/
module

public import proofs.«01_k».proof.Proof.RHist
public import proofs.«01_k».proof.Proof.RSeg

@[expose] public section

noncomputable section

namespace Cert.RLoss

open Idealize.ShloMosaic Idealize.ShloMosaic.ValueIdx
open Cert.ReferenceIdeal Cert.ReferenceIdeal.Gen Cert.ReferenceIdeal.Read

/-- The second batch goes through the same operations as the first: the blur. -/
theorem blur_same (y : (⟨S4x96x224x224, .f32⟩ : BufTy).Contents (Elt Ideal)) : val_main_v395 y = val_main_v197 y := rfl

/-- The second batch goes through the same operations as the first: the histogram. -/
theorem hist_same (y : (⟨S4x96x224x224, .f32⟩ : BufTy).Contents (Elt Ideal)) : val_main_v437 y = val_main_v416 y := rfl

/-- The second batch goes through the same operations as the first: the segments. -/
theorem seg_same (y : (⟨S4x96x224x224, .f32⟩ : BufTy).Contents (Elt Ideal)) : val_main_v497 y = val_main_v475 y := rfl

variable (x y : (⟨S4x96x224x224, .f32⟩ : BufTy).Contents (Elt Ideal)) (H G : ℕ → Fin 25 → ℝ)
  (hx : ∀ (b : Fin 4) (k : Fin 25), val_main_v416 x (ix2 b k : S4x25.Idx) = (H b k : EReal))
  (hy : ∀ (b : Fin 4) (k : Fin 25), val_main_v416 y (ix2 b k : S4x25.Idx) = (G b k : EReal))

/-- The segment of a batch position and a channel. -/
def part (H : ℕ → Fin 25 → ℝ) (b : Fin 4) (j : Fin 96) (k : Fin 25) : ℝ :=
  if b.val < min j.val 4 then Loss.seg H b.val (min j.val 4) k else 0

include hx hy

/-- The cosine of the two segments of a batch position and a channel. -/
theorem cosine_apply (b : Fin 4) (j : Fin 96) :
    val_main_v509 x y (ix2 b j : S4x96.Idx)
      = (((if b.val < min j.val 4 then Loss.pair KVal.eps H G b.val (min j.val 4) else 0 : ℝ)) : EReal) := by
  have ex : ∀ k : Fin 25, val_main_v475 x (idx_main_v499 (ix2 b j : S4x96.Idx) k) = (part H b j k : EReal) := fun k =>
    (congrArg (val_main_v475 x) (by funext a; fin_cases a <;> rfl)).trans (RSeg.seg_apply x H hx b j k)
  have ey : ∀ k : Fin 25, val_main_v497 y (idx_main_v499 (ix2 b j : S4x96.Idx) k) = (part G b j k : EReal) := fun k => by
    rw [seg_same]
    exact (congrArg (val_main_v475 y) (by funext a; fin_cases a <;> rfl)).trans (RSeg.seg_apply y G hy b j k)
  have e1 : val_main_v499 x y (ix2 b j : S4x96.Idx) = ∑ k : Fin 25, (part H b j k : EReal) * (part G b j k : EReal) := by
    refine (val_main_v499_apply x y _).trans ?_
    refine (congrArg (· + _) (Ideal.ofBits_zero_f32 : val_main_cst_127 (F := Ideal) (Shape.Idx.first h_S_) = 0)).trans ?_
    rw [zero_add]
    exact Finset.sum_congr rfl fun k _ => congrArg₂ (· * ·) (ex k) (ey k)
  have e2 : val_main_v501 x (ix2 b j : S4x96.Idx) = ∑ k : Fin 25, (part H b j k : EReal) * (part H b j k : EReal) := by
    refine (val_main_v501_apply x _).trans ?_
    refine (congrArg (· + _) (Ideal.ofBits_zero_f32 : val_main_cst_128 (F := Ideal) (Shape.Idx.first h_S_) = 0)).trans ?_
    rw [zero_add]
    exact Finset.sum_congr rfl fun k _ => congrArg₂ (· * ·) (ex k) (ex k)
  have e3 : val_main_v504 y (ix2 b j : S4x96.Idx) = ∑ k : Fin 25, (part G b j k : EReal) * (part G b j k : EReal) := by
    refine (val_main_v504_apply y _).trans ?_
    refine (congrArg (· + _) (Ideal.ofBits_zero_f32 : val_main_cst_129 (F := Ideal) (Shape.Idx.first h_S_) = 0)).trans ?_
    rw [zero_add]
    exact Finset.sum_congr rfl fun k _ => congrArg₂ (· * ·) (ey k) (ey k)
  have e4 : val_main_v507 (F := Ideal) (ix2 b j : S4x96.Idx) = (KVal.eps : EReal) := (val_main_v507_apply _).trans KVal.word_eps
  have e : val_main_v509 x y (ix2 b j : S4x96.Idx) = Ideal.div (val_main_v499 x y (ix2 b j : S4x96.Idx))
      (max (Ideal.sqrt (val_main_v501 x (ix2 b j : S4x96.Idx)) * Ideal.sqrt (val_main_v504 y (ix2 b j : S4x96.Idx)))
        (val_main_v507 (F := Ideal) (ix2 b j : S4x96.Idx))) := rfl
  rw [e, e1, e2, e3, e4, Loss.cosine_ereal _ KVal.eps_pos]
  refine congrArg _ ?_
  by_cases h : b.val < min j.val 4
  · rw [if_pos h]
    have hs : ∀ F : ℕ → Fin 25 → ℝ, (fun k => part F b j k) = Loss.seg F b.val (min j.val 4) := fun F => funext fun k => if_pos h
    exact congrArg₂ (Loss.cosine KVal.eps) (hs H) (hs G)
  · rw [if_neg h]
    have hs : ∀ F : ℕ → Fin 25 → ℝ, (fun k => part F b j k) = fun _ => 0 := fun F => funext fun k => if_neg h
    exact (congrArg₂ (Loss.cosine KVal.eps) (hs H) (hs G)).trans (Loss.cosine_zero _)

/-- The reference's result from the two histograms. -/
theorem total_apply (i : S1x1.Idx) :
    val_main_v512 x y i = ((Loss.total (Loss.pair KVal.eps H G) / 384 : ℝ) : EReal) := by
  have e0 : val_main_v512 x y i = val_main_v511 x y (Shape.Idx.first h_S_) := by
    unfold val_main_v512
    refine congrArg (val_main_v511 x y) ?_
    funext a
    exact a.elim0
  have e1 : val_main_v510 x y (Shape.Idx.first h_S_) = ((Loss.total (Loss.pair KVal.eps H G) : ℝ) : EReal) := by
    refine (val_main_v510_apply x y _).trans ?_
    refine (congrArg (· + _) (Ideal.ofBits_zero_f32 : val_main_cst_131 (F := Ideal) (Shape.Idx.first h_S_) = 0)).trans ?_
    rw [zero_add, sum_idx2, ← Loss.sum_eq_total, Loss.coe_sum]
    refine Finset.sum_congr rfl fun b _ => ?_
    rw [Loss.coe_sum]
    exact Finset.sum_congr rfl fun j _ => cosine_apply x y H G hx hy b j
  have e2 : val_main_v511 x y (Shape.Idx.first h_S_)
      = Ideal.div (val_main_v510 x y (Shape.Idx.first h_S_)) (Ideal.ofBits .f32 0x43C00000#32) := rfl
  rw [e0, e2, e1, KVal.word_384, Loss.div_real _ _ (by norm_num)]

omit hx hy

/-- The reference's result over images between zero and one. -/
theorem result (X Y : ℕ → ℕ → ℕ → ℕ → ℝ)
    (hX : ∀ (b : Fin 4) (d : Fin 96) (p q : Fin 224), x (ix4 b d p q : S4x96x224x224.Idx) = (X b d p q : EReal))
    (hY : ∀ (b : Fin 4) (d : Fin 96) (p q : Fin 224), y (ix4 b d p q : S4x96x224x224.Idx) = (Y b d p q : EReal))
    (h0X : ∀ b d p q, 0 ≤ X b d p q) (h1X : ∀ b d p q, X b d p q ≤ 1)
    (h0Y : ∀ b d p q, 0 ≤ Y b d p q) (h1Y : ∀ b d p q, Y b d p q ≤ 1) :
    val_main_v512 x y = fun _ => ((Loss.total (Loss.pair KVal.eps (KVal.counts X) (KVal.counts Y)) / 384 : ℝ) : EReal) :=
  funext fun i => total_apply x y (KVal.counts X) (KVal.counts Y) (RHist.hist_apply x X hX h0X h1X)
    (RHist.hist_apply y Y hY h0Y h1Y) i

end Cert.RLoss
-- ==== Proof.Unit.lean ====
/-
  The precondition read at an index: images between zero and one are arrays of reals between zero and one.
-/
module

public import proofs.«01_k».proof.Defs
public import Idealize.ShloMosaic.Lib.ValueIdx
public import Idealize.ShloMosaic.PureOps.Ideal.Laws

@[expose] public section

noncomputable section

namespace Cert.Unit

open Idealize.ShloMosaic Idealize.ShloMosaic.ValueIdx
open Cert.Pre_unit_range

/-- The word of one. -/
theorem word_one : Ideal.ofBits .f32 0x3F800000#32 = ((1 : ℝ) : EReal) := by
  simp [Ideal.ofBits, Ideal.ieee]
  rw [← EReal.coe_mul]
  norm_num

/-- Two conditions hold when their conjunction does. -/
theorem both (a b : BitVec 1) (h : IntOp.andi a b = 1#1) : a = 1#1 ∧ b = 1#1 := by
  revert a b
  decide

/-- A comparison with zero from above. -/
theorem ge_zero (t : EReal) (h : Ideal.cmp .oge t (Ideal.ofBits .f32 0x00000000#32) = 1#1) : 0 ≤ t := by
  rw [Ideal.ofBits_zero_f32] at h
  by_contra hn
  have : BitVec.ofBool (decide ((0 : EReal) ≤ t)) = 1#1 := h
  rw [decide_eq_false hn] at this
  exact absurd this (by decide)

/-- A comparison with one from below. -/
theorem le_one (t : EReal) (h : Ideal.cmp .ole t (Ideal.ofBits .f32 0x3F800000#32) = 1#1) : t ≤ ((1 : ℝ) : EReal) := by
  rw [word_one] at h
  by_contra hn
  have : BitVec.ofBool (decide (t ≤ ((1 : ℝ) : EReal))) = 1#1 := h
  rw [decide_eq_false hn] at this
  exact absurd this (by decide)

/-- What the precondition says of every pixel. -/
theorem bounds [Cert.Pre_unit_range.Facts] (x y : FVec Ideal S4x96x224x224 .f32)
    (h : Cert.Pre_unit_range.fn (F := Ideal) x y = fun _ => 1#1) (i : S4x96x224x224.Idx) :
    (0 ≤ x i ∧ x i ≤ ((1 : ℝ) : EReal)) ∧ (0 ≤ y i ∧ y i ≤ ((1 : ℝ) : EReal)) := by
  have hi : IntOp.andi (IntOp.andi (IntOp.andi (Ideal.cmp .oge (x i) (Ideal.ofBits .f32 0x00000000#32))
      (Ideal.cmp .ole (x i) (Ideal.ofBits .f32 0x3F800000#32))) (Ideal.cmp .oge (y i) (Ideal.ofBits .f32 0x00000000#32)))
      (Ideal.cmp .ole (y i) (Ideal.ofBits .f32 0x3F800000#32)) = 1#1 := congrFun h i
  obtain ⟨h3, hy1⟩ := both _ _ hi
  obtain ⟨h2, hy0⟩ := both _ _ h3
  obtain ⟨hx0, hx1⟩ := both _ _ h2
  exact ⟨⟨ge_zero _ hx0, le_one _ hx1⟩, ge_zero _ hy0, le_one _ hy1⟩

/-- The real images of an array, zero outside it. -/
def real (x : FVec Ideal S4x96x224x224 .f32) (b d p q : ℕ) : ℝ :=
  if h : (b < 4 ∧ d < 96) ∧ p < 224 ∧ q < 224 then
    (x (ix4 (⟨b, h.1.1⟩ : Fin 4) (⟨d, h.1.2⟩ : Fin 96) (⟨p, h.2.1⟩ : Fin 224) (⟨q, h.2.2⟩ : Fin 224))).toReal else 0

variable (x : FVec Ideal S4x96x224x224 .f32) (hx : ∀ i, 0 ≤ x i ∧ x i ≤ ((1 : ℝ) : EReal))

include hx

/-- An array between zero and one is its real images. -/
theorem real_apply (b : Fin 4) (d : Fin 96) (p q : Fin 224) : x (ix4 b d p q) = (real x b d p q : EReal) := by
  unfold real
  rw [dif_pos ⟨⟨b.isLt, d.isLt⟩, p.isLt, q.isLt⟩]
  refine (EReal.coe_toReal ?_ ?_).symm
  · exact ne_top_of_le_ne_top (EReal.coe_ne_top 1) (hx _).2
  · exact ne_bot_of_le_ne_bot EReal.zero_ne_bot (hx _).1

/-- The real images are not negative. -/
theorem real_nonneg (b d p q : ℕ) : 0 ≤ real x b d p q := by
  unfold real
  split_ifs with h
  · exact EReal.toReal_nonneg (hx _).1
  · exact le_rfl

/-- The real images are at most one. -/
theorem real_le_one (b d p q : ℕ) : real x b d p q ≤ 1 := by
  by_cases h : (b < 4 ∧ d < 96) ∧ p < 224 ∧ q < 224
  · have e := real_apply x hx ⟨b, h.1.1⟩ ⟨d, h.1.2⟩ ⟨p, h.2.1⟩ ⟨q, h.2.2⟩
    have := (hx (ix4 (⟨b, h.1.1⟩ : Fin 4) (⟨d, h.1.2⟩ : Fin 96) (⟨p, h.2.1⟩ : Fin 224) (⟨q, h.2.2⟩ : Fin 224))).2
    rw [e] at this
    exact EReal.coe_le_coe_iff.1 this
  · unfold real
    rw [dif_neg h]
    exact zero_le_one

end Cert.Unit
-- ==== Proof.Value.lean ====
/-
  The value claim: over images between zero and one the idealized kernel and the reference leave one and the same loss.
-/
module

public import proofs.«01_k».proof.Proof.KVal
public import proofs.«01_k».proof.Proof.RLoss
public import proofs.«01_k».proof.Proof.Unit
public import proofs.«01_k».proof.Proof.Gen.KernelIdeal.Value
public import Idealize.ShloMosaic.Lib.Claim

@[expose] public section

noncomputable section

namespace Cert.SameLoss

open Idealize.ShloMosaic Idealize.ShloMosaic.StableHlo Idealize.SL.Sem

variable [hK : Cert.KernelIdeal.Facts] [hR : Cert.ReferenceIdeal.Facts] [hP : Cert.Pre_unit_range.Facts]

/-- The idealized kernel's result is the reference's function of the same two arrays. -/
theorem same (m : (ℓ : Loc Cert.KernelIdeal.nD Cert.KernelIdeal.τ Cert.KernelIdeal.sig) → Buf (Elt Ideal) ℓ)
    (hm : Cert.Pre_KernelIdeal_unit_range m) (c : Dev Cert.KernelIdeal.nD) :
    Cert.KernelIdeal.Value.G3 m c = Cert.ReferenceIdeal.Read.val_main_v512
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  have hb := Unit.bounds _ _ (hm c)
  have hx := fun i => (hb i).1
  have hy := fun i => (hb i).2
  rw [RLoss.result _ _ _ _ (Unit.real_apply _ hx) (Unit.real_apply _ hy) (Unit.real_nonneg _ hx) (Unit.real_le_one _ hx)
    (Unit.real_nonneg _ hy) (Unit.real_le_one _ hy)]
  exact KVal.result m c _ _ (Unit.real_nonneg _ hx) (Unit.real_nonneg _ hy) (Unit.real_apply _ hx) (Unit.real_apply _ hy)

/-- The value claim. -/
theorem algebraic : Cert.algebraic_KernelIdeal_ReferenceIdeal_pre_unit_range := by
  intro m g m' g' hm hsame
  refine ⟨fun c => Cert.KernelIdeal.Value.G3 m c, Cert.KernelIdeal.Value.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v512_eq (F := Ideal) (launchContents m' c)).trans ?_)
  rw [launchContents_devRef, launchContents_devRef]
  refine Eq.trans ?_ (same m hm c).symm
  exact congrArg₂ Cert.ReferenceIdeal.Read.val_main_v512 (hsame c).1 (hsame c).2

end Cert.SameLoss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Frames.preFacts,
  Cert.Frames.kernel, Cert.Frames.kernelIdeal, fun m ρ _ => Cert.KernelIdeal.Gen.frame m ρ, Cert.Frames.referenceIdeal,
  fun m ρ _ => (θ_run Cert.ReferenceIdeal.defs _ _).mono
    (fun r h => ⟨fun c => (h c).2, sem_eq_zero_of_no_sems (by decide) r.2⟩) (Cert.ReferenceIdeal.Value.run (F := Ideal) m ρ),
  Cert.Frames.preserves,
  letI := Cert.Frames.preFacts
  Cert.SameLoss.algebraic (hK := Cert.KernelIdeal.Gen.facts) (hR := Cert.ReferenceIdeal.Gen.facts)⟩

end Cert.Proof

end
